-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 8192]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![8192, 512]⟩ 0 32 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v34) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x128x64 : Shape := ⟨4, ![2, 128, 128, 64]⟩
abbrev S256x512 : Shape := ⟨2, ![256, 512]⟩
abbrev S32x16x256 : Shape := ⟨3, ![32, 16, 256]⟩
abbrev S2x128x8x64 : Shape := ⟨4, ![2, 128, 8, 64]⟩
abbrev S31 : Shape := ⟨1, ![31]⟩
abbrev S32 : Shape := ⟨1, ![32]⟩
abbrev S2 : Shape := ⟨1, ![2]⟩
abbrev S1 : Shape := ⟨1, ![1]⟩
abbrev S_ : Shape := ⟨0, ![]⟩
abbrev S256x256 : Shape := ⟨2, ![256, 256]⟩
abbrev S1x128x8x64 : Shape := ⟨4, ![1, 128, 8, 64]⟩
abbrev S128x8x64 : Shape := ⟨3, ![128, 8, 64]⟩
abbrev S128x4x64 : Shape := ⟨3, ![128, 4, 64]⟩
abbrev S128x64 : Shape := ⟨2, ![128, 64]⟩
abbrev S128x1x64 : Shape := ⟨3, ![128, 1, 64]⟩
abbrev S128x128 : Shape := ⟨2, ![128, 128]⟩
abbrev S128 : Shape := ⟨1, ![128]⟩
abbrev S128x1 : Shape := ⟨2, ![128, 1]⟩
abbrev S128x256 : Shape := ⟨2, ![128, 256]⟩
abbrev S1x16x256 : Shape := ⟨3, ![1, 16, 256]⟩
abbrev S16x256 : Shape := ⟨2, ![16, 256]⟩

abbrev nBuf : Space → Nat
  | .hbm => 6
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x128x64, .f32⟩
  | .hbm, ⟨3, _⟩ => ⟨S2x128x128x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S256x512, .f32⟩
  | .local _ .vmem, ⟨3, _⟩ => ⟨S2x128x512, .f32⟩
  | .local _ .vmem, ⟨4, _⟩ => ⟨S32x16x256, .bf16⟩
  | .local _ .vmem, ⟨5, _⟩ => ⟨S32x16x256, .bf16⟩
  | .local _ .vmem, ⟨6, _⟩ => ⟨S32x16x256, .bf16⟩
  | .local _ .vmem, ⟨7, _⟩ => ⟨S2x128x8x64, .f32⟩
  | .local _ .vmem, ⟨8, _⟩ => ⟨S2x128x8x64, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 101 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | _ => false

abbrev sig : RefSig :=
  (ofTc nBuf bufTy 1 101 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_off1 (d0 : Dev nD) : Fin 4 → Nat :=
  let c0_i32_13 : BitVec 32 := 0#32
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c2_i32 : BitVec 32 := 2#32
  let c0_i32_1 : BitVec 32 := 0#32
  let v9 : BitVec 1 := Scalar.cmpi .sgt c2_i32 c0_i32_1
  let v10 : BitVec 32 := Scalar.extui v9
  let c0_i32_2 : BitVec 32 := 0#32
  let v11 : BitVec 1 := Scalar.cmpi .slt c2_i32 c0_i32_2
  let v12 : BitVec 32 := Scalar.extui v11
  let v13 : BitVec 32 := Scalar.subi v10 v12
  let v14 : BitVec 1 := Scalar.cmpi .ne v8 v13
  let v15 : BitVec 32 := Scalar.remsi v2 c2_i32
  let c0_i32_3 : BitVec 32 := 0#32
  let v16 : BitVec 1 := Scalar.cmpi .ne v15 c0_i32_3
  let v17 : BitVec 1 := Scalar.andi v14 v16
  let v3 : BitVec 32 := Scalar.divsi v2 c2_i32
  let c1_i32_4 : BitVec 32 := 1#32
  let v18 : BitVec 32 := Scalar.subi v3 c1_i32_4
  let v19 : BitVec 32 := Scalar.select v17 v18 v3
  let c8_i32 : BitVec 32 := 8#32
  let v20 : BitVec 32 := Scalar.muli v19 c8_i32
  let c0_i32_15 : BitVec 32 := 0#32
  ![0, 0, v20.toNat, 0]
def k0_dev1 (d0 : Dev nD) : Nat :=
  let c0_i32_24 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_20 : BitVec 32 := 1#32
  let v39 : BitVec 32 := Scalar.addi v2 c1_i32_20
  let c32_i32_21 : BitVec 32 := 32#32
  let v40 : BitVec 32 := Scalar.remsi v39 c32_i32_21
  let c1_i32_23 : BitVec 32 := 1#32
  let v41 : BitVec 32 := Scalar.muli v40 c1_i32_23
  let v42 : BitVec 32 := Scalar.addi c0_i32_24 v41
  v42.toNat
def k0_dev2 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_25 : BitVec 32 := 2#32
  let v43 : BitVec 32 := Scalar.addi v2 c2_i32_25
  let c32_i32_26 : BitVec 32 := 32#32
  let v44 : BitVec 32 := Scalar.remsi v43 c32_i32_26
  let c1_i32_28 : BitVec 32 := 1#32
  let v45 : BitVec 32 := Scalar.muli v44 c1_i32_28
  let v46 : BitVec 32 := Scalar.addi c0_i32_29 v45
  v46.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v47 : BitVec 32 := Scalar.addi v2 c3_i32
  let c32_i32_30 : BitVec 32 := 32#32
  let v48 : BitVec 32 := Scalar.remsi v47 c32_i32_30
  let c1_i32_32 : BitVec 32 := 1#32
  let v49 : BitVec 32 := Scalar.muli v48 c1_i32_32
  let v50 : BitVec 32 := Scalar.addi c0_i32_33 v49
  v50.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v51 : BitVec 32 := Scalar.addi v2 c4_i32
  let c32_i32_34 : BitVec 32 := 32#32
  let v52 : BitVec 32 := Scalar.remsi v51 c32_i32_34
  let c1_i32_36 : BitVec 32 := 1#32
  let v53 : BitVec 32 := Scalar.muli v52 c1_i32_36
  let v54 : BitVec 32 := Scalar.addi c0_i32_37 v53
  v54.toNat
def k0_dev5 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v55 : BitVec 32 := Scalar.addi v2 c5_i32
  let c32_i32_38 : BitVec 32 := 32#32
  let v56 : BitVec 32 := Scalar.remsi v55 c32_i32_38
  let c1_i32_40 : BitVec 32 := 1#32
  let v57 : BitVec 32 := Scalar.muli v56 c1_i32_40
  let v58 : BitVec 32 := Scalar.addi c0_i32_41 v57
  v58.toNat
def k0_dev6 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v59 : BitVec 32 := Scalar.addi v2 c6_i32
  let c32_i32_42 : BitVec 32 := 32#32
  let v60 : BitVec 32 := Scalar.remsi v59 c32_i32_42
  let c1_i32_44 : BitVec 32 := 1#32
  let v61 : BitVec 32 := Scalar.muli v60 c1_i32_44
  let v62 : BitVec 32 := Scalar.addi c0_i32_45 v61
  v62.toNat
def k0_dev7 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v63 : BitVec 32 := Scalar.addi v2 c7_i32
  let c32_i32_46 : BitVec 32 := 32#32
  let v64 : BitVec 32 := Scalar.remsi v63 c32_i32_46
  let c1_i32_48 : BitVec 32 := 1#32
  let v65 : BitVec 32 := Scalar.muli v64 c1_i32_48
  let v66 : BitVec 32 := Scalar.addi c0_i32_49 v65
  v66.toNat
def k0_dev8 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_50 : BitVec 32 := 8#32
  let v67 : BitVec 32 := Scalar.addi v2 c8_i32_50
  let c32_i32_51 : BitVec 32 := 32#32
  let v68 : BitVec 32 := Scalar.remsi v67 c32_i32_51
  let c1_i32_53 : BitVec 32 := 1#32
  let v69 : BitVec 32 := Scalar.muli v68 c1_i32_53
  let v70 : BitVec 32 := Scalar.addi c0_i32_54 v69
  v70.toNat
def k0_dev9 (d0 : Dev nD) : Nat :=
  let c0_i32_58 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v71 : BitVec 32 := Scalar.addi v2 c9_i32
  let c32_i32_55 : BitVec 32 := 32#32
  let v72 : BitVec 32 := Scalar.remsi v71 c32_i32_55
  let c1_i32_57 : BitVec 32 := 1#32
  let v73 : BitVec 32 := Scalar.muli v72 c1_i32_57
  let v74 : BitVec 32 := Scalar.addi c0_i32_58 v73
  v74.toNat
def k0_dev10 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v75 : BitVec 32 := Scalar.addi v2 c10_i32
  let c32_i32_59 : BitVec 32 := 32#32
  let v76 : BitVec 32 := Scalar.remsi v75 c32_i32_59
  let c1_i32_61 : BitVec 32 := 1#32
  let v77 : BitVec 32 := Scalar.muli v76 c1_i32_61
  let v78 : BitVec 32 := Scalar.addi c0_i32_62 v77
  v78.toNat
def k0_dev11 (d0 : Dev nD) : Nat :=
  let c0_i32_66 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v79 : BitVec 32 := Scalar.addi v2 c11_i32
  let c32_i32_63 : BitVec 32 := 32#32
  let v80 : BitVec 32 := Scalar.remsi v79 c32_i32_63
  let c1_i32_65 : BitVec 32 := 1#32
  let v81 : BitVec 32 := Scalar.muli v80 c1_i32_65
  let v82 : BitVec 32 := Scalar.addi c0_i32_66 v81
  v82.toNat
def k0_dev12 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v83 : BitVec 32 := Scalar.addi v2 c12_i32
  let c32_i32_67 : BitVec 32 := 32#32
  let v84 : BitVec 32 := Scalar.remsi v83 c32_i32_67
  let c1_i32_69 : BitVec 32 := 1#32
  let v85 : BitVec 32 := Scalar.muli v84 c1_i32_69
  let v86 : BitVec 32 := Scalar.addi c0_i32_70 v85
  v86.toNat
def k0_dev13 (d0 : Dev nD) : Nat :=
  let c0_i32_74 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v87 : BitVec 32 := Scalar.addi v2 c13_i32
  let c32_i32_71 : BitVec 32 := 32#32
  let v88 : BitVec 32 := Scalar.remsi v87 c32_i32_71
  let c1_i32_73 : BitVec 32 := 1#32
  let v89 : BitVec 32 := Scalar.muli v88 c1_i32_73
  let v90 : BitVec 32 := Scalar.addi c0_i32_74 v89
  v90.toNat
def k0_dev14 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v91 : BitVec 32 := Scalar.addi v2 c14_i32
  let c32_i32_75 : BitVec 32 := 32#32
  let v92 : BitVec 32 := Scalar.remsi v91 c32_i32_75
  let c1_i32_77 : BitVec 32 := 1#32
  let v93 : BitVec 32 := Scalar.muli v92 c1_i32_77
  let v94 : BitVec 32 := Scalar.addi c0_i32_78 v93
  v94.toNat
def k0_dev15 (d0 : Dev nD) : Nat :=
  let c0_i32_82 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v95 : BitVec 32 := Scalar.addi v2 c15_i32
  let c32_i32_79 : BitVec 32 := 32#32
  let v96 : BitVec 32 := Scalar.remsi v95 c32_i32_79
  let c1_i32_81 : BitVec 32 := 1#32
  let v97 : BitVec 32 := Scalar.muli v96 c1_i32_81
  let v98 : BitVec 32 := Scalar.addi c0_i32_82 v97
  v98.toNat
def k0_dev16 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v99 : BitVec 32 := Scalar.addi v2 c16_i32
  let c32_i32_83 : BitVec 32 := 32#32
  let v100 : BitVec 32 := Scalar.remsi v99 c32_i32_83
  let c1_i32_85 : BitVec 32 := 1#32
  let v101 : BitVec 32 := Scalar.muli v100 c1_i32_85
  let v102 : BitVec 32 := Scalar.addi c0_i32_86 v101
  v102.toNat
def k0_dev17 (d0 : Dev nD) : Nat :=
  let c0_i32_90 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v103 : BitVec 32 := Scalar.addi v2 c17_i32
  let c32_i32_87 : BitVec 32 := 32#32
  let v104 : BitVec 32 := Scalar.remsi v103 c32_i32_87
  let c1_i32_89 : BitVec 32 := 1#32
  let v105 : BitVec 32 := Scalar.muli v104 c1_i32_89
  let v106 : BitVec 32 := Scalar.addi c0_i32_90 v105
  v106.toNat
def k0_dev18 (d0 : Dev nD) : Nat :=
  let c0_i32_94 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v107 : BitVec 32 := Scalar.addi v2 c18_i32
  let c32_i32_91 : BitVec 32 := 32#32
  let v108 : BitVec 32 := Scalar.remsi v107 c32_i32_91
  let c1_i32_93 : BitVec 32 := 1#32
  let v109 : BitVec 32 := Scalar.muli v108 c1_i32_93
  let v110 : BitVec 32 := Scalar.addi c0_i32_94 v109
  v110.toNat
def k0_dev19 (d0 : Dev nD) : Nat :=
  let c0_i32_98 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v111 : BitVec 32 := Scalar.addi v2 c19_i32
  let c32_i32_95 : BitVec 32 := 32#32
  let v112 : BitVec 32 := Scalar.remsi v111 c32_i32_95
  let c1_i32_97 : BitVec 32 := 1#32
  let v113 : BitVec 32 := Scalar.muli v112 c1_i32_97
  let v114 : BitVec 32 := Scalar.addi c0_i32_98 v113
  v114.toNat
def k0_dev20 (d0 : Dev nD) : Nat :=
  let c0_i32_102 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v115 : BitVec 32 := Scalar.addi v2 c20_i32
  let c32_i32_99 : BitVec 32 := 32#32
  let v116 : BitVec 32 := Scalar.remsi v115 c32_i32_99
  let c1_i32_101 : BitVec 32 := 1#32
  let v117 : BitVec 32 := Scalar.muli v116 c1_i32_101
  let v118 : BitVec 32 := Scalar.addi c0_i32_102 v117
  v118.toNat
def k0_dev21 (d0 : Dev nD) : Nat :=
  let c0_i32_106 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v119 : BitVec 32 := Scalar.addi v2 c21_i32
  let c32_i32_103 : BitVec 32 := 32#32
  let v120 : BitVec 32 := Scalar.remsi v119 c32_i32_103
  let c1_i32_105 : BitVec 32 := 1#32
  let v121 : BitVec 32 := Scalar.muli v120 c1_i32_105
  let v122 : BitVec 32 := Scalar.addi c0_i32_106 v121
  v122.toNat
def k0_dev22 (d0 : Dev nD) : Nat :=
  let c0_i32_110 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v123 : BitVec 32 := Scalar.addi v2 c22_i32
  let c32_i32_107 : BitVec 32 := 32#32
  let v124 : BitVec 32 := Scalar.remsi v123 c32_i32_107
  let c1_i32_109 : BitVec 32 := 1#32
  let v125 : BitVec 32 := Scalar.muli v124 c1_i32_109
  let v126 : BitVec 32 := Scalar.addi c0_i32_110 v125
  v126.toNat
def k0_dev23 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v127 : BitVec 32 := Scalar.addi v2 c23_i32
  let c32_i32_111 : BitVec 32 := 32#32
  let v128 : BitVec 32 := Scalar.remsi v127 c32_i32_111
  let c1_i32_113 : BitVec 32 := 1#32
  let v129 : BitVec 32 := Scalar.muli v128 c1_i32_113
  let v130 : BitVec 32 := Scalar.addi c0_i32_114 v129
  v130.toNat
def k0_dev24 (d0 : Dev nD) : Nat :=
  let c0_i32_118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v131 : BitVec 32 := Scalar.addi v2 c24_i32
  let c32_i32_115 : BitVec 32 := 32#32
  let v132 : BitVec 32 := Scalar.remsi v131 c32_i32_115
  let c1_i32_117 : BitVec 32 := 1#32
  let v133 : BitVec 32 := Scalar.muli v132 c1_i32_117
  let v134 : BitVec 32 := Scalar.addi c0_i32_118 v133
  v134.toNat
def k0_dev25 (d0 : Dev nD) : Nat :=
  let c0_i32_122 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v135 : BitVec 32 := Scalar.addi v2 c25_i32
  let c32_i32_119 : BitVec 32 := 32#32
  let v136 : BitVec 32 := Scalar.remsi v135 c32_i32_119
  let c1_i32_121 : BitVec 32 := 1#32
  let v137 : BitVec 32 := Scalar.muli v136 c1_i32_121
  let v138 : BitVec 32 := Scalar.addi c0_i32_122 v137
  v138.toNat
def k0_dev26 (d0 : Dev nD) : Nat :=
  let c0_i32_126 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v139 : BitVec 32 := Scalar.addi v2 c26_i32
  let c32_i32_123 : BitVec 32 := 32#32
  let v140 : BitVec 32 := Scalar.remsi v139 c32_i32_123
  let c1_i32_125 : BitVec 32 := 1#32
  let v141 : BitVec 32 := Scalar.muli v140 c1_i32_125
  let v142 : BitVec 32 := Scalar.addi c0_i32_126 v141
  v142.toNat
def k0_dev27 (d0 : Dev nD) : Nat :=
  let c0_i32_130 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v143 : BitVec 32 := Scalar.addi v2 c27_i32
  let c32_i32_127 : BitVec 32 := 32#32
  let v144 : BitVec 32 := Scalar.remsi v143 c32_i32_127
  let c1_i32_129 : BitVec 32 := 1#32
  let v145 : BitVec 32 := Scalar.muli v144 c1_i32_129
  let v146 : BitVec 32 := Scalar.addi c0_i32_130 v145
  v146.toNat
def k0_dev28 (d0 : Dev nD) : Nat :=
  let c0_i32_134 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v147 : BitVec 32 := Scalar.addi v2 c28_i32
  let c32_i32_131 : BitVec 32 := 32#32
  let v148 : BitVec 32 := Scalar.remsi v147 c32_i32_131
  let c1_i32_133 : BitVec 32 := 1#32
  let v149 : BitVec 32 := Scalar.muli v148 c1_i32_133
  let v150 : BitVec 32 := Scalar.addi c0_i32_134 v149
  v150.toNat
def k0_dev29 (d0 : Dev nD) : Nat :=
  let c0_i32_138 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v151 : BitVec 32 := Scalar.addi v2 c29_i32
  let c32_i32_135 : BitVec 32 := 32#32
  let v152 : BitVec 32 := Scalar.remsi v151 c32_i32_135
  let c1_i32_137 : BitVec 32 := 1#32
  let v153 : BitVec 32 := Scalar.muli v152 c1_i32_137
  let v154 : BitVec 32 := Scalar.addi c0_i32_138 v153
  v154.toNat
def k0_dev30 (d0 : Dev nD) : Nat :=
  let c0_i32_142 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v155 : BitVec 32 := Scalar.addi v2 c30_i32
  let c32_i32_139 : BitVec 32 := 32#32
  let v156 : BitVec 32 := Scalar.remsi v155 c32_i32_139
  let c1_i32_141 : BitVec 32 := 1#32
  let v157 : BitVec 32 := Scalar.muli v156 c1_i32_141
  let v158 : BitVec 32 := Scalar.addi c0_i32_142 v157
  v158.toNat
def k0_dev31 (d0 : Dev nD) : Nat :=
  let c0_i32_146 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v159 : BitVec 32 := Scalar.addi v2 c31_i32
  let c32_i32_143 : BitVec 32 := 32#32
  let v160 : BitVec 32 := Scalar.remsi v159 c32_i32_143
  let c1_i32_145 : BitVec 32 := 1#32
  let v161 : BitVec 32 := Scalar.muli v160 c1_i32_145
  let v162 : BitVec 32 := Scalar.addi c0_i32_146 v161
  v162.toNat
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_226 : BitVec 32 := 0#32
  let c0_i32_227 : BitVec 32 := 0#32
  ![v2.toNat, 0, 0]
def k0_off4 (d0 : Dev nD) (c1_i32_221 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v350 : BitVec 32 := Scalar.addi v2 c1_i32_221
  let c32_i32_222 : BitVec 32 := 32#32
  let v351 : BitVec 32 := Scalar.remsi v350 c32_i32_222
  let c0_i32_228 : BitVec 32 := 0#32
  let c0_i32_229 : BitVec 32 := 0#32
  ![v351.toNat, 0, 0]
def k0_dev32 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_221 : BitVec 32 := 1#32
  let v350 : BitVec 32 := Scalar.addi v2 c1_i32_221
  let c32_i32_222 : BitVec 32 := 32#32
  let v351 : BitVec 32 := Scalar.remsi v350 c32_i32_222
  let c1_i32_224 : BitVec 32 := 1#32
  let v352 : BitVec 32 := Scalar.muli v351 c1_i32_224
  let v353 : BitVec 32 := Scalar.addi c0_i32_225 v352
  v353.toNat
def k0_dev33 (d0 : Dev nD) : Nat :=
  let c0_i32_234 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_230 : BitVec 32 := 2#32
  let v362 : BitVec 32 := Scalar.addi v2 c2_i32_230
  let c32_i32_231 : BitVec 32 := 32#32
  let v363 : BitVec 32 := Scalar.remsi v362 c32_i32_231
  let c1_i32_233 : BitVec 32 := 1#32
  let v364 : BitVec 32 := Scalar.muli v363 c1_i32_233
  let v365 : BitVec 32 := Scalar.addi c0_i32_234 v364
  v365.toNat
def k0_dev34 (d0 : Dev nD) : Nat :=
  let c0_i32_243 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_239 : BitVec 32 := 3#32
  let v374 : BitVec 32 := Scalar.addi v2 c3_i32_239
  let c32_i32_240 : BitVec 32 := 32#32
  let v375 : BitVec 32 := Scalar.remsi v374 c32_i32_240
  let c1_i32_242 : BitVec 32 := 1#32
  let v376 : BitVec 32 := Scalar.muli v375 c1_i32_242
  let v377 : BitVec 32 := Scalar.addi c0_i32_243 v376
  v377.toNat
def k0_dev35 (d0 : Dev nD) : Nat :=
  let c0_i32_252 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_248 : BitVec 32 := 4#32
  let v386 : BitVec 32 := Scalar.addi v2 c4_i32_248
  let c32_i32_249 : BitVec 32 := 32#32
  let v387 : BitVec 32 := Scalar.remsi v386 c32_i32_249
  let c1_i32_251 : BitVec 32 := 1#32
  let v388 : BitVec 32 := Scalar.muli v387 c1_i32_251
  let v389 : BitVec 32 := Scalar.addi c0_i32_252 v388
  v389.toNat
def k0_dev36 (d0 : Dev nD) : Nat :=
  let c0_i32_261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_257 : BitVec 32 := 5#32
  let v398 : BitVec 32 := Scalar.addi v2 c5_i32_257
  let c32_i32_258 : BitVec 32 := 32#32
  let v399 : BitVec 32 := Scalar.remsi v398 c32_i32_258
  let c1_i32_260 : BitVec 32 := 1#32
  let v400 : BitVec 32 := Scalar.muli v399 c1_i32_260
  let v401 : BitVec 32 := Scalar.addi c0_i32_261 v400
  v401.toNat
def k0_dev37 (d0 : Dev nD) : Nat :=
  let c0_i32_270 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_266 : BitVec 32 := 6#32
  let v410 : BitVec 32 := Scalar.addi v2 c6_i32_266
  let c32_i32_267 : BitVec 32 := 32#32
  let v411 : BitVec 32 := Scalar.remsi v410 c32_i32_267
  let c1_i32_269 : BitVec 32 := 1#32
  let v412 : BitVec 32 := Scalar.muli v411 c1_i32_269
  let v413 : BitVec 32 := Scalar.addi c0_i32_270 v412
  v413.toNat
def k0_dev38 (d0 : Dev nD) : Nat :=
  let c0_i32_279 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_275 : BitVec 32 := 7#32
  let v422 : BitVec 32 := Scalar.addi v2 c7_i32_275
  let c32_i32_276 : BitVec 32 := 32#32
  let v423 : BitVec 32 := Scalar.remsi v422 c32_i32_276
  let c1_i32_278 : BitVec 32 := 1#32
  let v424 : BitVec 32 := Scalar.muli v423 c1_i32_278
  let v425 : BitVec 32 := Scalar.addi c0_i32_279 v424
  v425.toNat
def k0_dev39 (d0 : Dev nD) : Nat :=
  let c0_i32_288 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_284 : BitVec 32 := 8#32
  let v434 : BitVec 32 := Scalar.addi v2 c8_i32_284
  let c32_i32_285 : BitVec 32 := 32#32
  let v435 : BitVec 32 := Scalar.remsi v434 c32_i32_285
  let c1_i32_287 : BitVec 32 := 1#32
  let v436 : BitVec 32 := Scalar.muli v435 c1_i32_287
  let v437 : BitVec 32 := Scalar.addi c0_i32_288 v436
  v437.toNat
def k0_dev40 (d0 : Dev nD) : Nat :=
  let c0_i32_297 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_293 : BitVec 32 := 9#32
  let v446 : BitVec 32 := Scalar.addi v2 c9_i32_293
  let c32_i32_294 : BitVec 32 := 32#32
  let v447 : BitVec 32 := Scalar.remsi v446 c32_i32_294
  let c1_i32_296 : BitVec 32 := 1#32
  let v448 : BitVec 32 := Scalar.muli v447 c1_i32_296
  let v449 : BitVec 32 := Scalar.addi c0_i32_297 v448
  v449.toNat
def k0_dev41 (d0 : Dev nD) : Nat :=
  let c0_i32_306 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_302 : BitVec 32 := 10#32
  let v458 : BitVec 32 := Scalar.addi v2 c10_i32_302
  let c32_i32_303 : BitVec 32 := 32#32
  let v459 : BitVec 32 := Scalar.remsi v458 c32_i32_303
  let c1_i32_305 : BitVec 32 := 1#32
  let v460 : BitVec 32 := Scalar.muli v459 c1_i32_305
  let v461 : BitVec 32 := Scalar.addi c0_i32_306 v460
  v461.toNat
def k0_dev42 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_311 : BitVec 32 := 11#32
  let v470 : BitVec 32 := Scalar.addi v2 c11_i32_311
  let c32_i32_312 : BitVec 32 := 32#32
  let v471 : BitVec 32 := Scalar.remsi v470 c32_i32_312
  let c1_i32_314 : BitVec 32 := 1#32
  let v472 : BitVec 32 := Scalar.muli v471 c1_i32_314
  let v473 : BitVec 32 := Scalar.addi c0_i32_315 v472
  v473.toNat
def k0_dev43 (d0 : Dev nD) : Nat :=
  let c0_i32_324 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_320 : BitVec 32 := 12#32
  let v482 : BitVec 32 := Scalar.addi v2 c12_i32_320
  let c32_i32_321 : BitVec 32 := 32#32
  let v483 : BitVec 32 := Scalar.remsi v482 c32_i32_321
  let c1_i32_323 : BitVec 32 := 1#32
  let v484 : BitVec 32 := Scalar.muli v483 c1_i32_323
  let v485 : BitVec 32 := Scalar.addi c0_i32_324 v484
  v485.toNat
def k0_dev44 (d0 : Dev nD) : Nat :=
  let c0_i32_333 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_329 : BitVec 32 := 13#32
  let v494 : BitVec 32 := Scalar.addi v2 c13_i32_329
  let c32_i32_330 : BitVec 32 := 32#32
  let v495 : BitVec 32 := Scalar.remsi v494 c32_i32_330
  let c1_i32_332 : BitVec 32 := 1#32
  let v496 : BitVec 32 := Scalar.muli v495 c1_i32_332
  let v497 : BitVec 32 := Scalar.addi c0_i32_333 v496
  v497.toNat
def k0_dev45 (d0 : Dev nD) : Nat :=
  let c0_i32_342 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_338 : BitVec 32 := 14#32
  let v506 : BitVec 32 := Scalar.addi v2 c14_i32_338
  let c32_i32_339 : BitVec 32 := 32#32
  let v507 : BitVec 32 := Scalar.remsi v506 c32_i32_339
  let c1_i32_341 : BitVec 32 := 1#32
  let v508 : BitVec 32 := Scalar.muli v507 c1_i32_341
  let v509 : BitVec 32 := Scalar.addi c0_i32_342 v508
  v509.toNat
def k0_dev46 (d0 : Dev nD) : Nat :=
  let c0_i32_351 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_347 : BitVec 32 := 15#32
  let v518 : BitVec 32 := Scalar.addi v2 c15_i32_347
  let c32_i32_348 : BitVec 32 := 32#32
  let v519 : BitVec 32 := Scalar.remsi v518 c32_i32_348
  let c1_i32_350 : BitVec 32 := 1#32
  let v520 : BitVec 32 := Scalar.muli v519 c1_i32_350
  let v521 : BitVec 32 := Scalar.addi c0_i32_351 v520
  v521.toNat
def k0_dev47 (d0 : Dev nD) : Nat :=
  let c0_i32_360 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_356 : BitVec 32 := 16#32
  let v530 : BitVec 32 := Scalar.addi v2 c16_i32_356
  let c32_i32_357 : BitVec 32 := 32#32
  let v531 : BitVec 32 := Scalar.remsi v530 c32_i32_357
  let c1_i32_359 : BitVec 32 := 1#32
  let v532 : BitVec 32 := Scalar.muli v531 c1_i32_359
  let v533 : BitVec 32 := Scalar.addi c0_i32_360 v532
  v533.toNat
def k0_dev48 (d0 : Dev nD) : Nat :=
  let c0_i32_369 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_365 : BitVec 32 := 17#32
  let v542 : BitVec 32 := Scalar.addi v2 c17_i32_365
  let c32_i32_366 : BitVec 32 := 32#32
  let v543 : BitVec 32 := Scalar.remsi v542 c32_i32_366
  let c1_i32_368 : BitVec 32 := 1#32
  let v544 : BitVec 32 := Scalar.muli v543 c1_i32_368
  let v545 : BitVec 32 := Scalar.addi c0_i32_369 v544
  v545.toNat
def k0_dev49 (d0 : Dev nD) : Nat :=
  let c0_i32_378 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_374 : BitVec 32 := 18#32
  let v554 : BitVec 32 := Scalar.addi v2 c18_i32_374
  let c32_i32_375 : BitVec 32 := 32#32
  let v555 : BitVec 32 := Scalar.remsi v554 c32_i32_375
  let c1_i32_377 : BitVec 32 := 1#32
  let v556 : BitVec 32 := Scalar.muli v555 c1_i32_377
  let v557 : BitVec 32 := Scalar.addi c0_i32_378 v556
  v557.toNat
def k0_dev50 (d0 : Dev nD) : Nat :=
  let c0_i32_387 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_383 : BitVec 32 := 19#32
  let v566 : BitVec 32 := Scalar.addi v2 c19_i32_383
  let c32_i32_384 : BitVec 32 := 32#32
  let v567 : BitVec 32 := Scalar.remsi v566 c32_i32_384
  let c1_i32_386 : BitVec 32 := 1#32
  let v568 : BitVec 32 := Scalar.muli v567 c1_i32_386
  let v569 : BitVec 32 := Scalar.addi c0_i32_387 v568
  v569.toNat
def k0_dev51 (d0 : Dev nD) : Nat :=
  let c0_i32_396 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_392 : BitVec 32 := 20#32
  let v578 : BitVec 32 := Scalar.addi v2 c20_i32_392
  let c32_i32_393 : BitVec 32 := 32#32
  let v579 : BitVec 32 := Scalar.remsi v578 c32_i32_393
  let c1_i32_395 : BitVec 32 := 1#32
  let v580 : BitVec 32 := Scalar.muli v579 c1_i32_395
  let v581 : BitVec 32 := Scalar.addi c0_i32_396 v580
  v581.toNat
def k0_dev52 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_401 : BitVec 32 := 21#32
  let v590 : BitVec 32 := Scalar.addi v2 c21_i32_401
  let c32_i32_402 : BitVec 32 := 32#32
  let v591 : BitVec 32 := Scalar.remsi v590 c32_i32_402
  let c1_i32_404 : BitVec 32 := 1#32
  let v592 : BitVec 32 := Scalar.muli v591 c1_i32_404
  let v593 : BitVec 32 := Scalar.addi c0_i32_405 v592
  v593.toNat
def k0_dev53 (d0 : Dev nD) : Nat :=
  let c0_i32_414 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_410 : BitVec 32 := 22#32
  let v602 : BitVec 32 := Scalar.addi v2 c22_i32_410
  let c32_i32_411 : BitVec 32 := 32#32
  let v603 : BitVec 32 := Scalar.remsi v602 c32_i32_411
  let c1_i32_413 : BitVec 32 := 1#32
  let v604 : BitVec 32 := Scalar.muli v603 c1_i32_413
  let v605 : BitVec 32 := Scalar.addi c0_i32_414 v604
  v605.toNat
def k0_dev54 (d0 : Dev nD) : Nat :=
  let c0_i32_423 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_419 : BitVec 32 := 23#32
  let v614 : BitVec 32 := Scalar.addi v2 c23_i32_419
  let c32_i32_420 : BitVec 32 := 32#32
  let v615 : BitVec 32 := Scalar.remsi v614 c32_i32_420
  let c1_i32_422 : BitVec 32 := 1#32
  let v616 : BitVec 32 := Scalar.muli v615 c1_i32_422
  let v617 : BitVec 32 := Scalar.addi c0_i32_423 v616
  v617.toNat
def k0_dev55 (d0 : Dev nD) : Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_428 : BitVec 32 := 24#32
  let v626 : BitVec 32 := Scalar.addi v2 c24_i32_428
  let c32_i32_429 : BitVec 32 := 32#32
  let v627 : BitVec 32 := Scalar.remsi v626 c32_i32_429
  let c1_i32_431 : BitVec 32 := 1#32
  let v628 : BitVec 32 := Scalar.muli v627 c1_i32_431
  let v629 : BitVec 32 := Scalar.addi c0_i32_432 v628
  v629.toNat
def k0_dev56 (d0 : Dev nD) : Nat :=
  let c0_i32_441 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_437 : BitVec 32 := 25#32
  let v638 : BitVec 32 := Scalar.addi v2 c25_i32_437
  let c32_i32_438 : BitVec 32 := 32#32
  let v639 : BitVec 32 := Scalar.remsi v638 c32_i32_438
  let c1_i32_440 : BitVec 32 := 1#32
  let v640 : BitVec 32 := Scalar.muli v639 c1_i32_440
  let v641 : BitVec 32 := Scalar.addi c0_i32_441 v640
  v641.toNat
def k0_dev57 (d0 : Dev nD) : Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_446 : BitVec 32 := 26#32
  let v650 : BitVec 32 := Scalar.addi v2 c26_i32_446
  let c32_i32_447 : BitVec 32 := 32#32
  let v651 : BitVec 32 := Scalar.remsi v650 c32_i32_447
  let c1_i32_449 : BitVec 32 := 1#32
  let v652 : BitVec 32 := Scalar.muli v651 c1_i32_449
  let v653 : BitVec 32 := Scalar.addi c0_i32_450 v652
  v653.toNat
def k0_dev58 (d0 : Dev nD) : Nat :=
  let c0_i32_459 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_455 : BitVec 32 := 27#32
  let v662 : BitVec 32 := Scalar.addi v2 c27_i32_455
  let c32_i32_456 : BitVec 32 := 32#32
  let v663 : BitVec 32 := Scalar.remsi v662 c32_i32_456
  let c1_i32_458 : BitVec 32 := 1#32
  let v664 : BitVec 32 := Scalar.muli v663 c1_i32_458
  let v665 : BitVec 32 := Scalar.addi c0_i32_459 v664
  v665.toNat
def k0_dev59 (d0 : Dev nD) : Nat :=
  let c0_i32_468 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_464 : BitVec 32 := 28#32
  let v674 : BitVec 32 := Scalar.addi v2 c28_i32_464
  let c32_i32_465 : BitVec 32 := 32#32
  let v675 : BitVec 32 := Scalar.remsi v674 c32_i32_465
  let c1_i32_467 : BitVec 32 := 1#32
  let v676 : BitVec 32 := Scalar.muli v675 c1_i32_467
  let v677 : BitVec 32 := Scalar.addi c0_i32_468 v676
  v677.toNat
def k0_dev60 (d0 : Dev nD) : Nat :=
  let c0_i32_477 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_473 : BitVec 32 := 29#32
  let v686 : BitVec 32 := Scalar.addi v2 c29_i32_473
  let c32_i32_474 : BitVec 32 := 32#32
  let v687 : BitVec 32 := Scalar.remsi v686 c32_i32_474
  let c1_i32_476 : BitVec 32 := 1#32
  let v688 : BitVec 32 := Scalar.muli v687 c1_i32_476
  let v689 : BitVec 32 := Scalar.addi c0_i32_477 v688
  v689.toNat
def k0_dev61 (d0 : Dev nD) : Nat :=
  let c0_i32_486 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_482 : BitVec 32 := 30#32
  let v698 : BitVec 32 := Scalar.addi v2 c30_i32_482
  let c32_i32_483 : BitVec 32 := 32#32
  let v699 : BitVec 32 := Scalar.remsi v698 c32_i32_483
  let c1_i32_485 : BitVec 32 := 1#32
  let v700 : BitVec 32 := Scalar.muli v699 c1_i32_485
  let v701 : BitVec 32 := Scalar.addi c0_i32_486 v700
  v701.toNat
def k0_dev62 (d0 : Dev nD) : Nat :=
  let c0_i32_495 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_491 : BitVec 32 := 31#32
  let v710 : BitVec 32 := Scalar.addi v2 c31_i32_491
  let c32_i32_492 : BitVec 32 := 32#32
  let v711 : BitVec 32 := Scalar.remsi v710 c32_i32_492
  let c1_i32_494 : BitVec 32 := 1#32
  let v712 : BitVec 32 := Scalar.muli v711 c1_i32_494
  let v713 : BitVec 32 := Scalar.addi c0_i32_495 v712
  v713.toNat
def k0_off5 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v722 : Index := Scalar.indexCast v2
  let c0_500 : Index := 0#32
  let c0_501 : Index := 0#32
  ![v722.toNat, 0, 0]
def k0_off6 (d0 : Dev nD) (c1_i32_504 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v729 : BitVec 32 := Scalar.subi v2 c1_i32_504
  let c32_i32_505 : BitVec 32 := 32#32
  let v730 : BitVec 32 := Scalar.addi v729 c32_i32_505
  let c32_i32_506 : BitVec 32 := 32#32
  let v731 : BitVec 32 := Scalar.remsi v730 c32_i32_506
  ![v731.toNat]
def k0_off7 (d0 : Dev nD) (c1_i32_504 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v729 : BitVec 32 := Scalar.subi v2 c1_i32_504
  let c32_i32_505 : BitVec 32 := 32#32
  let v730 : BitVec 32 := Scalar.addi v729 c32_i32_505
  let c32_i32_506 : BitVec 32 := 32#32
  let v731 : BitVec 32 := Scalar.remsi v730 c32_i32_506
  let c0_i32_510 : BitVec 32 := 0#32
  let c0_i32_511 : BitVec 32 := 0#32
  ![v731.toNat, 0, 0]
def k0_dev63 (d0 : Dev nD) : Nat :=
  let c0_i32_1010 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_1006 : BitVec 32 := 1#32
  let v1264 : BitVec 32 := Scalar.addi v2 c1_i32_1006
  let c32_i32_1007 : BitVec 32 := 32#32
  let v1265 : BitVec 32 := Scalar.remsi v1264 c32_i32_1007
  let c1_i32_1009 : BitVec 32 := 1#32
  let v1266 : BitVec 32 := Scalar.muli v1265 c1_i32_1009
  let v1267 : BitVec 32 := Scalar.addi c0_i32_1010 v1266
  v1267.toNat
def k0_dev64 (d0 : Dev nD) : Nat :=
  let c0_i32_1019 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_1015 : BitVec 32 := 2#32
  let v1276 : BitVec 32 := Scalar.addi v2 c2_i32_1015
  let c32_i32_1016 : BitVec 32 := 32#32
  let v1277 : BitVec 32 := Scalar.remsi v1276 c32_i32_1016
  let c1_i32_1018 : BitVec 32 := 1#32
  let v1278 : BitVec 32 := Scalar.muli v1277 c1_i32_1018
  let v1279 : BitVec 32 := Scalar.addi c0_i32_1019 v1278
  v1279.toNat
def k0_dev65 (d0 : Dev nD) : Nat :=
  let c0_i32_1028 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_1024 : BitVec 32 := 3#32
  let v1288 : BitVec 32 := Scalar.addi v2 c3_i32_1024
  let c32_i32_1025 : BitVec 32 := 32#32
  let v1289 : BitVec 32 := Scalar.remsi v1288 c32_i32_1025
  let c1_i32_1027 : BitVec 32 := 1#32
  let v1290 : BitVec 32 := Scalar.muli v1289 c1_i32_1027
  let v1291 : BitVec 32 := Scalar.addi c0_i32_1028 v1290
  v1291.toNat
def k0_dev66 (d0 : Dev nD) : Nat :=
  let c0_i32_1037 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_1033 : BitVec 32 := 4#32
  let v1300 : BitVec 32 := Scalar.addi v2 c4_i32_1033
  let c32_i32_1034 : BitVec 32 := 32#32
  let v1301 : BitVec 32 := Scalar.remsi v1300 c32_i32_1034
  let c1_i32_1036 : BitVec 32 := 1#32
  let v1302 : BitVec 32 := Scalar.muli v1301 c1_i32_1036
  let v1303 : BitVec 32 := Scalar.addi c0_i32_1037 v1302
  v1303.toNat
def k0_dev67 (d0 : Dev nD) : Nat :=
  let c0_i32_1046 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_1042 : BitVec 32 := 5#32
  let v1312 : BitVec 32 := Scalar.addi v2 c5_i32_1042
  let c32_i32_1043 : BitVec 32 := 32#32
  let v1313 : BitVec 32 := Scalar.remsi v1312 c32_i32_1043
  let c1_i32_1045 : BitVec 32 := 1#32
  let v1314 : BitVec 32 := Scalar.muli v1313 c1_i32_1045
  let v1315 : BitVec 32 := Scalar.addi c0_i32_1046 v1314
  v1315.toNat
def k0_dev68 (d0 : Dev nD) : Nat :=
  let c0_i32_1055 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_1051 : BitVec 32 := 6#32
  let v1324 : BitVec 32 := Scalar.addi v2 c6_i32_1051
  let c32_i32_1052 : BitVec 32 := 32#32
  let v1325 : BitVec 32 := Scalar.remsi v1324 c32_i32_1052
  let c1_i32_1054 : BitVec 32 := 1#32
  let v1326 : BitVec 32 := Scalar.muli v1325 c1_i32_1054
  let v1327 : BitVec 32 := Scalar.addi c0_i32_1055 v1326
  v1327.toNat
def k0_dev69 (d0 : Dev nD) : Nat :=
  let c0_i32_1064 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_1060 : BitVec 32 := 7#32
  let v1336 : BitVec 32 := Scalar.addi v2 c7_i32_1060
  let c32_i32_1061 : BitVec 32 := 32#32
  let v1337 : BitVec 32 := Scalar.remsi v1336 c32_i32_1061
  let c1_i32_1063 : BitVec 32 := 1#32
  let v1338 : BitVec 32 := Scalar.muli v1337 c1_i32_1063
  let v1339 : BitVec 32 := Scalar.addi c0_i32_1064 v1338
  v1339.toNat
def k0_dev70 (d0 : Dev nD) : Nat :=
  let c0_i32_1073 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_1069 : BitVec 32 := 8#32
  let v1348 : BitVec 32 := Scalar.addi v2 c8_i32_1069
  let c32_i32_1070 : BitVec 32 := 32#32
  let v1349 : BitVec 32 := Scalar.remsi v1348 c32_i32_1070
  let c1_i32_1072 : BitVec 32 := 1#32
  let v1350 : BitVec 32 := Scalar.muli v1349 c1_i32_1072
  let v1351 : BitVec 32 := Scalar.addi c0_i32_1073 v1350
  v1351.toNat
def k0_dev71 (d0 : Dev nD) : Nat :=
  let c0_i32_1082 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_1078 : BitVec 32 := 9#32
  let v1360 : BitVec 32 := Scalar.addi v2 c9_i32_1078
  let c32_i32_1079 : BitVec 32 := 32#32
  let v1361 : BitVec 32 := Scalar.remsi v1360 c32_i32_1079
  let c1_i32_1081 : BitVec 32 := 1#32
  let v1362 : BitVec 32 := Scalar.muli v1361 c1_i32_1081
  let v1363 : BitVec 32 := Scalar.addi c0_i32_1082 v1362
  v1363.toNat
def k0_dev72 (d0 : Dev nD) : Nat :=
  let c0_i32_1091 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_1087 : BitVec 32 := 10#32
  let v1372 : BitVec 32 := Scalar.addi v2 c10_i32_1087
  let c32_i32_1088 : BitVec 32 := 32#32
  let v1373 : BitVec 32 := Scalar.remsi v1372 c32_i32_1088
  let c1_i32_1090 : BitVec 32 := 1#32
  let v1374 : BitVec 32 := Scalar.muli v1373 c1_i32_1090
  let v1375 : BitVec 32 := Scalar.addi c0_i32_1091 v1374
  v1375.toNat
def k0_dev73 (d0 : Dev nD) : Nat :=
  let c0_i32_1100 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_1096 : BitVec 32 := 11#32
  let v1384 : BitVec 32 := Scalar.addi v2 c11_i32_1096
  let c32_i32_1097 : BitVec 32 := 32#32
  let v1385 : BitVec 32 := Scalar.remsi v1384 c32_i32_1097
  let c1_i32_1099 : BitVec 32 := 1#32
  let v1386 : BitVec 32 := Scalar.muli v1385 c1_i32_1099
  let v1387 : BitVec 32 := Scalar.addi c0_i32_1100 v1386
  v1387.toNat
def k0_dev74 (d0 : Dev nD) : Nat :=
  let c0_i32_1109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_1105 : BitVec 32 := 12#32
  let v1396 : BitVec 32 := Scalar.addi v2 c12_i32_1105
  let c32_i32_1106 : BitVec 32 := 32#32
  let v1397 : BitVec 32 := Scalar.remsi v1396 c32_i32_1106
  let c1_i32_1108 : BitVec 32 := 1#32
  let v1398 : BitVec 32 := Scalar.muli v1397 c1_i32_1108
  let v1399 : BitVec 32 := Scalar.addi c0_i32_1109 v1398
  v1399.toNat
def k0_dev75 (d0 : Dev nD) : Nat :=
  let c0_i32_1118 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_1114 : BitVec 32 := 13#32
  let v1408 : BitVec 32 := Scalar.addi v2 c13_i32_1114
  let c32_i32_1115 : BitVec 32 := 32#32
  let v1409 : BitVec 32 := Scalar.remsi v1408 c32_i32_1115
  let c1_i32_1117 : BitVec 32 := 1#32
  let v1410 : BitVec 32 := Scalar.muli v1409 c1_i32_1117
  let v1411 : BitVec 32 := Scalar.addi c0_i32_1118 v1410
  v1411.toNat
def k0_dev76 (d0 : Dev nD) : Nat :=
  let c0_i32_1127 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_1123 : BitVec 32 := 14#32
  let v1420 : BitVec 32 := Scalar.addi v2 c14_i32_1123
  let c32_i32_1124 : BitVec 32 := 32#32
  let v1421 : BitVec 32 := Scalar.remsi v1420 c32_i32_1124
  let c1_i32_1126 : BitVec 32 := 1#32
  let v1422 : BitVec 32 := Scalar.muli v1421 c1_i32_1126
  let v1423 : BitVec 32 := Scalar.addi c0_i32_1127 v1422
  v1423.toNat
def k0_dev77 (d0 : Dev nD) : Nat :=
  let c0_i32_1136 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_1132 : BitVec 32 := 15#32
  let v1432 : BitVec 32 := Scalar.addi v2 c15_i32_1132
  let c32_i32_1133 : BitVec 32 := 32#32
  let v1433 : BitVec 32 := Scalar.remsi v1432 c32_i32_1133
  let c1_i32_1135 : BitVec 32 := 1#32
  let v1434 : BitVec 32 := Scalar.muli v1433 c1_i32_1135
  let v1435 : BitVec 32 := Scalar.addi c0_i32_1136 v1434
  v1435.toNat
def k0_dev78 (d0 : Dev nD) : Nat :=
  let c0_i32_1145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_1141 : BitVec 32 := 16#32
  let v1444 : BitVec 32 := Scalar.addi v2 c16_i32_1141
  let c32_i32_1142 : BitVec 32 := 32#32
  let v1445 : BitVec 32 := Scalar.remsi v1444 c32_i32_1142
  let c1_i32_1144 : BitVec 32 := 1#32
  let v1446 : BitVec 32 := Scalar.muli v1445 c1_i32_1144
  let v1447 : BitVec 32 := Scalar.addi c0_i32_1145 v1446
  v1447.toNat
def k0_dev79 (d0 : Dev nD) : Nat :=
  let c0_i32_1154 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_1150 : BitVec 32 := 17#32
  let v1456 : BitVec 32 := Scalar.addi v2 c17_i32_1150
  let c32_i32_1151 : BitVec 32 := 32#32
  let v1457 : BitVec 32 := Scalar.remsi v1456 c32_i32_1151
  let c1_i32_1153 : BitVec 32 := 1#32
  let v1458 : BitVec 32 := Scalar.muli v1457 c1_i32_1153
  let v1459 : BitVec 32 := Scalar.addi c0_i32_1154 v1458
  v1459.toNat
def k0_dev80 (d0 : Dev nD) : Nat :=
  let c0_i32_1163 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_1159 : BitVec 32 := 18#32
  let v1468 : BitVec 32 := Scalar.addi v2 c18_i32_1159
  let c32_i32_1160 : BitVec 32 := 32#32
  let v1469 : BitVec 32 := Scalar.remsi v1468 c32_i32_1160
  let c1_i32_1162 : BitVec 32 := 1#32
  let v1470 : BitVec 32 := Scalar.muli v1469 c1_i32_1162
  let v1471 : BitVec 32 := Scalar.addi c0_i32_1163 v1470
  v1471.toNat
def k0_dev81 (d0 : Dev nD) : Nat :=
  let c0_i32_1172 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_1168 : BitVec 32 := 19#32
  let v1480 : BitVec 32 := Scalar.addi v2 c19_i32_1168
  let c32_i32_1169 : BitVec 32 := 32#32
  let v1481 : BitVec 32 := Scalar.remsi v1480 c32_i32_1169
  let c1_i32_1171 : BitVec 32 := 1#32
  let v1482 : BitVec 32 := Scalar.muli v1481 c1_i32_1171
  let v1483 : BitVec 32 := Scalar.addi c0_i32_1172 v1482
  v1483.toNat
def k0_dev82 (d0 : Dev nD) : Nat :=
  let c0_i32_1181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_1177 : BitVec 32 := 20#32
  let v1492 : BitVec 32 := Scalar.addi v2 c20_i32_1177
  let c32_i32_1178 : BitVec 32 := 32#32
  let v1493 : BitVec 32 := Scalar.remsi v1492 c32_i32_1178
  let c1_i32_1180 : BitVec 32 := 1#32
  let v1494 : BitVec 32 := Scalar.muli v1493 c1_i32_1180
  let v1495 : BitVec 32 := Scalar.addi c0_i32_1181 v1494
  v1495.toNat
def k0_dev83 (d0 : Dev nD) : Nat :=
  let c0_i32_1190 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_1186 : BitVec 32 := 21#32
  let v1504 : BitVec 32 := Scalar.addi v2 c21_i32_1186
  let c32_i32_1187 : BitVec 32 := 32#32
  let v1505 : BitVec 32 := Scalar.remsi v1504 c32_i32_1187
  let c1_i32_1189 : BitVec 32 := 1#32
  let v1506 : BitVec 32 := Scalar.muli v1505 c1_i32_1189
  let v1507 : BitVec 32 := Scalar.addi c0_i32_1190 v1506
  v1507.toNat
def k0_dev84 (d0 : Dev nD) : Nat :=
  let c0_i32_1199 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_1195 : BitVec 32 := 22#32
  let v1516 : BitVec 32 := Scalar.addi v2 c22_i32_1195
  let c32_i32_1196 : BitVec 32 := 32#32
  let v1517 : BitVec 32 := Scalar.remsi v1516 c32_i32_1196
  let c1_i32_1198 : BitVec 32 := 1#32
  let v1518 : BitVec 32 := Scalar.muli v1517 c1_i32_1198
  let v1519 : BitVec 32 := Scalar.addi c0_i32_1199 v1518
  v1519.toNat
def k0_dev85 (d0 : Dev nD) : Nat :=
  let c0_i32_1208 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_1204 : BitVec 32 := 23#32
  let v1528 : BitVec 32 := Scalar.addi v2 c23_i32_1204
  let c32_i32_1205 : BitVec 32 := 32#32
  let v1529 : BitVec 32 := Scalar.remsi v1528 c32_i32_1205
  let c1_i32_1207 : BitVec 32 := 1#32
  let v1530 : BitVec 32 := Scalar.muli v1529 c1_i32_1207
  let v1531 : BitVec 32 := Scalar.addi c0_i32_1208 v1530
  v1531.toNat
def k0_dev86 (d0 : Dev nD) : Nat :=
  let c0_i32_1217 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_1213 : BitVec 32 := 24#32
  let v1540 : BitVec 32 := Scalar.addi v2 c24_i32_1213
  let c32_i32_1214 : BitVec 32 := 32#32
  let v1541 : BitVec 32 := Scalar.remsi v1540 c32_i32_1214
  let c1_i32_1216 : BitVec 32 := 1#32
  let v1542 : BitVec 32 := Scalar.muli v1541 c1_i32_1216
  let v1543 : BitVec 32 := Scalar.addi c0_i32_1217 v1542
  v1543.toNat
def k0_dev87 (d0 : Dev nD) : Nat :=
  let c0_i32_1226 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_1222 : BitVec 32 := 25#32
  let v1552 : BitVec 32 := Scalar.addi v2 c25_i32_1222
  let c32_i32_1223 : BitVec 32 := 32#32
  let v1553 : BitVec 32 := Scalar.remsi v1552 c32_i32_1223
  let c1_i32_1225 : BitVec 32 := 1#32
  let v1554 : BitVec 32 := Scalar.muli v1553 c1_i32_1225
  let v1555 : BitVec 32 := Scalar.addi c0_i32_1226 v1554
  v1555.toNat
def k0_dev88 (d0 : Dev nD) : Nat :=
  let c0_i32_1235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_1231 : BitVec 32 := 26#32
  let v1564 : BitVec 32 := Scalar.addi v2 c26_i32_1231
  let c32_i32_1232 : BitVec 32 := 32#32
  let v1565 : BitVec 32 := Scalar.remsi v1564 c32_i32_1232
  let c1_i32_1234 : BitVec 32 := 1#32
  let v1566 : BitVec 32 := Scalar.muli v1565 c1_i32_1234
  let v1567 : BitVec 32 := Scalar.addi c0_i32_1235 v1566
  v1567.toNat
def k0_dev89 (d0 : Dev nD) : Nat :=
  let c0_i32_1244 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_1240 : BitVec 32 := 27#32
  let v1576 : BitVec 32 := Scalar.addi v2 c27_i32_1240
  let c32_i32_1241 : BitVec 32 := 32#32
  let v1577 : BitVec 32 := Scalar.remsi v1576 c32_i32_1241
  let c1_i32_1243 : BitVec 32 := 1#32
  let v1578 : BitVec 32 := Scalar.muli v1577 c1_i32_1243
  let v1579 : BitVec 32 := Scalar.addi c0_i32_1244 v1578
  v1579.toNat
def k0_dev90 (d0 : Dev nD) : Nat :=
  let c0_i32_1253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_1249 : BitVec 32 := 28#32
  let v1588 : BitVec 32 := Scalar.addi v2 c28_i32_1249
  let c32_i32_1250 : BitVec 32 := 32#32
  let v1589 : BitVec 32 := Scalar.remsi v1588 c32_i32_1250
  let c1_i32_1252 : BitVec 32 := 1#32
  let v1590 : BitVec 32 := Scalar.muli v1589 c1_i32_1252
  let v1591 : BitVec 32 := Scalar.addi c0_i32_1253 v1590
  v1591.toNat
def k0_dev91 (d0 : Dev nD) : Nat :=
  let c0_i32_1262 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_1258 : BitVec 32 := 29#32
  let v1600 : BitVec 32 := Scalar.addi v2 c29_i32_1258
  let c32_i32_1259 : BitVec 32 := 32#32
  let v1601 : BitVec 32 := Scalar.remsi v1600 c32_i32_1259
  let c1_i32_1261 : BitVec 32 := 1#32
  let v1602 : BitVec 32 := Scalar.muli v1601 c1_i32_1261
  let v1603 : BitVec 32 := Scalar.addi c0_i32_1262 v1602
  v1603.toNat
def k0_dev92 (d0 : Dev nD) : Nat :=
  let c0_i32_1271 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_1267 : BitVec 32 := 30#32
  let v1612 : BitVec 32 := Scalar.addi v2 c30_i32_1267
  let c32_i32_1268 : BitVec 32 := 32#32
  let v1613 : BitVec 32 := Scalar.remsi v1612 c32_i32_1268
  let c1_i32_1270 : BitVec 32 := 1#32
  let v1614 : BitVec 32 := Scalar.muli v1613 c1_i32_1270
  let v1615 : BitVec 32 := Scalar.addi c0_i32_1271 v1614
  v1615.toNat
def k0_dev93 (d0 : Dev nD) : Nat :=
  let c0_i32_1280 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_1276 : BitVec 32 := 31#32
  let v1624 : BitVec 32 := Scalar.addi v2 c31_i32_1276
  let c32_i32_1277 : BitVec 32 := 32#32
  let v1625 : BitVec 32 := Scalar.remsi v1624 c32_i32_1277
  let c1_i32_1279 : BitVec 32 := 1#32
  let v1626 : BitVec 32 := Scalar.muli v1625 c1_i32_1279
  let v1627 : BitVec 32 := Scalar.addi c0_i32_1280 v1626
  v1627.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x128x512 : Shape := ⟨3, ![2, 128, 512]⟩
abbrev S512x8192 : Shape := ⟨2, ![512, 8192]⟩
abbrev S2x128x128x64 : Shape := ⟨4, ![2, 128, 128, 64]⟩
abbrev S8192x512 : Shape := ⟨2, ![8192, 512]⟩
abbrev S2x128x8192 : Shape := ⟨3, ![2, 128, 8192]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x128x128x128 : Shape := ⟨4, ![2, 128, 128, 128]⟩
abbrev S1x1x128x128 : Shape := ⟨4, ![1, 1, 128, 128]⟩
abbrev S2x128x128 : Shape := ⟨3, ![2, 128, 128]⟩
abbrev S2x128x128x1 : Shape := ⟨4, ![2, 128, 128, 1]⟩
abbrev S1x1x128x1 : Shape := ⟨4, ![1, 1, 128, 1]⟩
abbrev S2x128x64x128 : Shape := ⟨4, ![2, 128, 64, 128]⟩

abbrev nBuf : Space → Nat
  | .hbm => 57
  | .vmem => 0
  | .smem => 0
  | _ => 0

abbrev bufTy : (tb : Table) → Fin (tcTables nBuf tb) → BufTy
  | .hbm, ⟨0, _⟩ => ⟨S2x128x512, .f32⟩
  | .hbm, ⟨1, _⟩ => ⟨S512x8192, .f32⟩
  | .hbm, ⟨2, _⟩ => ⟨S2x128x128x64, .f32⟩
  | .hbm, ⟨3, _⟩ => ⟨S2x128x128x64, .f32⟩
  | .hbm, ⟨4, _⟩ => ⟨S8192x512, .f32⟩
  | .hbm, ⟨5, _⟩ => ⟨S2x128x8192, .f32⟩
  | .hbm, ⟨6, _⟩ => ⟨S2x128x128x64, .f32⟩
  | .hbm, ⟨7, _⟩ => ⟨S128, .i32⟩
  | .hbm, ⟨8, _⟩ => ⟨S128x1, .i32⟩
  | .hbm, ⟨9, _⟩ => ⟨S128, .i32⟩
  | .hbm, ⟨10, _⟩ => ⟨S1x128, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S_, .i32⟩
  | .hbm, ⟨16, _⟩ => ⟨S128x128, .i32⟩
  | .hbm, ⟨17, _⟩ => ⟨S128x128, .i1⟩
  | .hbm, ⟨18, _⟩ => ⟨S2x128x128x128, .f32⟩
  | .hbm, ⟨19, _⟩ => ⟨S_, .f32⟩
  | .hbm, ⟨20, _⟩ => ⟨S2x128x128x128, .f32⟩
  | .hbm, ⟨21, _⟩ => ⟨S2x128x128x128, .f32⟩
  | .hbm, ⟨22, _⟩ => ⟨S1x1x128x128, .i1⟩
  | .hbm, ⟨23, _⟩ => ⟨S_, .f32⟩
  | .hbm, ⟨24, _⟩ => ⟨S_, .f32⟩
  | .hbm, ⟨25, _⟩ => ⟨S2x128x128x128, .i1⟩
  | .hbm, ⟨26, _⟩ => ⟨S2x128x128x128, .f32⟩
  | .hbm, ⟨27, _⟩ => ⟨S2x128x128x128, .f32⟩
  | .hbm, ⟨28, _⟩ => ⟨S_, .f32⟩
  | .hbm, ⟨29, _⟩ => ⟨S2x128x128, .f32⟩
  | .hbm, ⟨30, _⟩ => ⟨S2x128x128x1, .f32⟩
  | .hbm, ⟨31, _⟩ => ⟨S2x128x128x128, .f32⟩
  | .hbm, ⟨32, _⟩ => ⟨S2x128x128x128, .f32⟩
  | .hbm, ⟨33, _⟩ => ⟨S2x128x128x128, .f32⟩
  | .hbm, ⟨34, _⟩ => ⟨S_, .i1⟩
  | .hbm, ⟨35, _⟩ => ⟨S128, .i1⟩
  | .hbm, ⟨36, _⟩ => ⟨S1x1x128x1, .i1⟩
  | .hbm, ⟨37, _⟩ => ⟨S_, .f32⟩
  | .hbm, ⟨38, _⟩ => ⟨S2x128x128, .f32⟩
  | .hbm, ⟨39, _⟩ => ⟨S2x128x128x1, .f32⟩
  | .hbm, ⟨40, _⟩ => ⟨S_, .f32⟩
  | .hbm, ⟨41, _⟩ => ⟨S_, .f32⟩
  | .hbm, ⟨42, _⟩ => ⟨S2x128x128x1, .i1⟩
  | .hbm, ⟨43, _⟩ => ⟨S2x128x128x1, .f32⟩
  | .hbm, ⟨44, _⟩ => ⟨S2x128x128x1, .f32⟩
  | .hbm, ⟨45, _⟩ => ⟨S2x128x128x128, .f32⟩
  | .hbm, ⟨46, _⟩ => ⟨S2x128x128x128, .f32⟩
  | .hbm, ⟨47, _⟩ => ⟨S1x1x128x1, .i1⟩
  | .hbm, ⟨48, _⟩ => ⟨S_, .f32⟩
  | .hbm, ⟨49, _⟩ => ⟨S_, .f32⟩
  | .hbm, ⟨50, _⟩ => ⟨S2x128x128x128, .i1⟩
  | .hbm, ⟨51, _⟩ => ⟨S2x128x128x128, .f32⟩
  | .hbm, ⟨52, _⟩ => ⟨S2x128x128x128, .f32⟩
  | .hbm, ⟨53, _⟩ => ⟨S2x128x64x128, .f32⟩
  | .hbm, ⟨54, _⟩ => ⟨S2x128x128x64, .f32⟩
  | .hbm, ⟨55, _⟩ => ⟨S2x128x8192, .f32⟩
  | .hbm, ⟨56, _⟩ => ⟨S2x128x512, .f32⟩
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_2 : Ref sig .tc := ⟨.hbm, 34, rfl⟩
abbrev main_v22 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_v25 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_call2_v0 : Ref sig .tc := ⟨.hbm, 49, rfl⟩
abbrev main_call2_v1 : Ref sig .tc := ⟨.hbm, 50, rfl⟩
abbrev main_call2_v2 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩

abbrev nD : Nat := 1
abbrev τ : Topo := Topo.v7x

variable {F : FTy → Type} [FloatOps F]
-- ==== Proof.IdealProto.lean ====
/-
The exchange of the kernel as a protocol: which semaphore cells there are, which device raises each of them and
by how much, and what memory each raise hands over.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.SparseCore.Stream

@[expose] public section

noncomputable section

namespace Cert.KernelIdeal.Sync

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources: the pipeline's own and one family of rounds, duties named by numbers -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## The peers of a device -/

/-- The device `j + 1` places after `c`. -/
def nx (c : Dev nD) (j : ℕ) : Dev nD := ⟨(c.val + j + 1) % 32, Nat.mod_lt _ (by decide)⟩
/-- The device `j + 1` places before `c`. -/
def pv (c : Dev nD) (j : ℕ) : Dev nD := ⟨(c.val + 31 - j) % 32, Nat.mod_lt _ (by decide)⟩

theorem pv_nx (c : Dev nD) {j : ℕ} (h : j < 31) : pv (nx c j) j = c := by
  have := c.isLt; apply Fin.ext; show ((c.val + j + 1) % 32 + 31 - j) % 32 = c.val
  change c.val < 32 at this; omega
theorem nx_pv (c : Dev nD) {j : ℕ} (h : j < 31) : nx (pv c j) j = c := by
  have := c.isLt; apply Fin.ext; show ((c.val + 31 - j) % 32 + j + 1) % 32 = c.val
  change c.val < 32 at this; omega
theorem nx_nx (c : Dev nD) {j : ℕ} (h : j < 31) : nx (nx c j) (30 - j) = c := by
  have := c.isLt; apply Fin.ext; show ((c.val + j + 1) % 32 + (30 - j) + 1) % 32 = c.val
  change c.val < 32 at this; omega
theorem nx_ne (c : Dev nD) {j : ℕ} (h : j < 31) : nx c j ≠ c := fun e => by
  have h1 := congrArg Fin.val e; change (c.val + j + 1) % 32 = c.val at h1
  have := c.isLt; change c.val < 32 at this; omega
theorem pv_ne (c : Dev nD) {j : ℕ} (h : j < 31) : pv c j ≠ c := fun e => by
  have h1 := congrArg Fin.val e; change (c.val + 31 - j) % 32 = c.val at h1
  have := c.isLt; change c.val < 32 at this; omega
theorem nx_inj (c : Dev nD) {i j : ℕ} (hi : i < 31) (hj : j < 31) (e : nx c i = nx c j) : i = j := by
  have h1 := congrArg Fin.val e; change (c.val + i + 1) % 32 = (c.val + j + 1) % 32 at h1
  have := c.isLt; change c.val < 32 at this; omega
theorem pv_inj (c : Dev nD) {i j : ℕ} (hi : i < 31) (hj : j < 31) (e : pv c i = pv c j) : i = j := by
  have h1 := congrArg Fin.val e; change (c.val + 31 - i) % 32 = (c.val + 31 - j) % 32 at h1
  have := c.isLt; change c.val < 32 at this; omega
/-- Every device other than `c` is `j + 1` places after it for one `j`. -/
theorem exists_nx {c s : Dev nD} (h : s ≠ c) : ∃ j, j < 31 ∧ nx c j = s := by
  have h1 : s.val ≠ c.val := fun e => h (Fin.ext e)
  have hc := c.isLt; have hs := s.isLt; change c.val < 32 at hc; change s.val < 32 at hs
  refine ⟨(s.val + 31 - c.val) % 32, by omega, Fin.ext ?_⟩
  show (c.val + (s.val + 31 - c.val) % 32 + 1) % 32 = s.val
  omega
theorem exists_pv {c s : Dev nD} (h : s ≠ c) : ∃ j, j < 31 ∧ pv c j = s := by
  have h1 : s.val ≠ c.val := fun e => h (Fin.ext e)
  have hc := c.isLt; have hs := s.isLt; change c.val < 32 at hc; change s.val < 32 at hs
  refine ⟨(c.val + 31 - s.val) % 32, by omega, Fin.ext ?_⟩
  show (c.val + 31 - (c.val + 31 - s.val) % 32) % 32 = s.val
  omega

/-! ## The buffers and their slots -/

abbrev xM : Memref sig .tc .vmem S2x128x512 .f32 := Memref.whole cc0_stg0_0
abbrev wqM : Memref sig .tc .vmem S512x256 .f32 := Memref.whole cc0_stg1_0
abbrev woM : Memref sig .tc .vmem S256x512 .f32 := Memref.whole cc0_stg2_0
abbrev oM : Memref sig .tc .vmem S2x128x512 .f32 := Memref.whole cc0_stg3_0
abbrev keM : Memref sig .tc .hbm S2x128x128x64 .f32 := Memref.whole main_arg2
abbrev veM : Memref sig .tc .hbm S2x128x128x64 .f32 := Memref.whole main_arg3
abbrev pfM : Memref sig .tc .vmem S32x16x256 .bf16 := Memref.whole cc0_scratch0
abbrev acM : Memref sig .tc .vmem S32x16x256 .bf16 := Memref.whole cc0_scratch1
abbrev gaM : Memref sig .tc .vmem S32x16x256 .bf16 := Memref.whole cc0_scratch2
abbrev kM : Memref sig .tc .vmem S2x128x8x64 .f32 := Memref.whole cc0_scratch3
abbrev vM : Memref sig .tc .vmem S2x128x8x64 .f32 := Memref.whole cc0_scratch4

/-- A slot of a buffer of 32 blocks, as the transfers name it. -/
abbrev slotM (M : Memref sig .tc .vmem S32x16x256 .bf16) (o : Fin 3 → ℕ) (h : ∀ a, o a + S1x16x256.size a ≤ S32x16x256.size a) :
    Memref sig .tc .vmem S16x256 .bf16 :=
  (M.slice (Rect.unit (s := S32x16x256) o S1x16x256.size h) (fun _ => rfl)).squeeze S16x256 squeezes_S1x16x256_S16x256

/-- The offsets of slot `s`. -/
abbrev so (s : Dev nD) : Fin 3 → ℕ := ![s.val, 0, 0]
theorem so_inb (s : Dev nD) : ∀ a, so s a + S1x16x256.size a ≤ S32x16x256.size a := by
  have h := s.isLt; change s.val < 32 at h
  intro a; fin_cases a
  · show s.val + 1 ≤ 32; omega
  · show 0 + 16 ≤ 16; omega
  · show 0 + 256 ≤ 256; omega

/-- The elements of slot `s`. -/
def slotSet (s : Dev nD) : Finset S32x16x256.Idx := Finset.univ.filter fun i => (i 0).val = s.val

theorem mem_slotSet {s : Dev nD} {i : S32x16x256.Idx} : i ∈ slotSet s ↔ (i 0).val = s.val := by
  unfold slotSet; rw [Finset.mem_filter]; exact ⟨fun h => h.2, fun h => ⟨Finset.mem_univ _, h⟩⟩
theorem slots_disjoint {s t : Dev nD} (h : s ≠ t) : Disjoint (slotSet s) (slotSet t) :=
  Finset.disjoint_left.mpr fun i hi hj => h (Fin.ext ((mem_slotSet.mp hi).symm.trans (mem_slotSet.mp hj)))
theorem slots_cover : Finset.univ.biUnion slotSet = Finset.univ :=
  Finset.eq_univ_iff_forall.mpr fun i => Finset.mem_biUnion.mpr ⟨(⟨(i 0).val, (i 0).isLt⟩ : Dev nD), Finset.mem_univ _, mem_slotSet.mpr rfl⟩

/-- The rectangle of slot `s` covers exactly the slot's elements. -/
theorem rect_set (s : Dev nD) : (Rect.unit (s := S32x16x256) (so s) S1x16x256.size (so_inb s)).set = slotSet s := by
  ext i
  rw [mem_slotSet, Rect.mem_set_unit]
  constructor
  · intro h; have h0 := h 0
    have h1 : s.val ≤ (i 0).val := h0.1
    have h2 : (i 0).val < s.val + 1 := h0.2
    omega
  · intro h a; fin_cases a
    · show s.val ≤ (i 0).val ∧ (i 0).val < s.val + 1; omega
    · have := (i 1).isLt; change (i 1).val < 16 at this
      show 0 ≤ (i 1).val ∧ (i 1).val < 0 + 16; omega
    · have := (i 2).isLt; change (i 2).val < 256 at this
      show 0 ≤ (i 2).val ∧ (i 2).val < 0 + 256; omega

/-- The elements under a slot's memref, whatever in-bounds evidence it carries. -/
theorem pf_set (s : Dev nD) (h) : (slotM pfM (so s) h).view.set = slotSet s :=
  (View.set_reshape (v := (pfM.view.slice (Rect.unit (s := S32x16x256) (so s) S1x16x256.size h))) _).trans ((View.set_slice_whole cc0_scratch0 _).trans (rect_set s))
theorem ac_set (s : Dev nD) (h) : (slotM acM (so s) h).view.set = slotSet s :=
  (View.set_reshape (v := (acM.view.slice (Rect.unit (s := S32x16x256) (so s) S1x16x256.size h))) _).trans ((View.set_slice_whole cc0_scratch1 _).trans (rect_set s))
theorem ga_set (s : Dev nD) (h) : (slotM gaM (so s) h).view.set = slotSet s :=
  (View.set_reshape (v := (gaM.view.slice (Rect.unit (s := S32x16x256) (so s) S1x16x256.size h))) _).trans ((View.set_slice_whole cc0_scratch2 _).trans (rect_set s))

/-- An index of a buffer with its leading coordinate replaced. -/
def put (q : Dev nD) (i : S32x16x256.Idx) : S32x16x256.Idx := fun
  | 0 => ⟨q.val, q.isLt⟩
  | 1 => i 1
  | 2 => i 2
/-- An index of a buffer as an index of one block. -/
def blk (i : S32x16x256.Idx) : S1x16x256.Idx := fun
  | 0 => ⟨0, Nat.one_pos⟩
  | 1 => i 1
  | 2 => i 2
/-- The slot an index lies in. -/
def lead (i : S32x16x256.Idx) : Dev nD := ⟨(i 0).val, (i 0).isLt⟩

theorem lead_of_mem {s : Dev nD} {i : S32x16x256.Idx} (h : i ∈ slotSet s) : lead i = s := Fin.ext (mem_slotSet.mp h)

/-- The place of a block's element in slot `s`. -/
abbrev ri (s : Dev nD) (h : ∀ a, so s a + S1x16x256.size a ≤ S32x16x256.size a) : S1x16x256.Idx → S32x16x256.Idx := (Rect.unit (s := S32x16x256) (so s) S1x16x256.size h).emb

theorem blk_ri (s : Dev nD) (h) (z : S1x16x256.Idx) : blk (ri s h z) = z := by
  funext a; fin_cases a
  · exact Fin.ext (by have := (z 0).isLt; change (z 0).val < 1 at this; show 0 = (z 0).val; omega)
  · exact Fin.ext (by show 0 + 1 * (z 1).val = (z 1).val; omega)
  · exact Fin.ext (by show 0 + 1 * (z 2).val = (z 2).val; omega)
theorem put_ri (q s : Dev nD) (h h') (z : S1x16x256.Idx) : put q (ri s h z) = ri q h' z := by
  funext a; fin_cases a
  · exact Fin.ext (by have := (z 0).isLt; change (z 0).val < 1 at this; show q.val = q.val + 1 * (z 0).val; omega)
  · rfl
  · rfl
theorem lead_ri (s : Dev nD) (h) (z : S1x16x256.Idx) : lead (ri s h z) = s :=
  Fin.ext (by have := (z 0).isLt; change (z 0).val < 1 at this; show s.val + 1 * (z 0).val = s.val; omega)
theorem exists_ri {s : Dev nD} {i : S32x16x256.Idx} (hi : i ∈ slotSet s) (h) : ∃ z, ri s h z = i := by
  refine ⟨blk i, ?_⟩
  have h0 := mem_slotSet.mp hi
  funext a; fin_cases a
  · exact Fin.ext (by show s.val + 1 * 0 = (i 0).val; omega)
  · exact Fin.ext (by show 0 + 1 * (i 1).val = (i 1).val; omega)
  · exact Fin.ext (by show 0 + 1 * (i 2).val = (i 2).val; omega)

/-! ## What the buffers hold

`PV c` is the array of partial results device `c` computes; block `s` of it goes to device `s`. Device `c` collects
block `c` of every device's array, sums them, and hands the sum to everybody. -/

abbrev Blocks (F : FTy → Type) [FloatOps F] : Type := S32x16x256.Idx → Elt F .bf16

variable (PV : Dev nD → Blocks F)

/-- What device `c`'s landing buffer holds when every peer's block has arrived. -/
def accV (c : Dev nD) : Blocks F := fun i => PV (lead i) (put c i)
/-- What every device's gathering buffer holds in the end: in slot `s` the sum device `s` computed. -/
def gathV : Blocks F := fun i => k0_pay19 (accV PV (lead i)) (blk i)

/-! ## Slots held -/

/-- Slot `s` of device `c`'s array of partial results, at a share. -/
def pfS (c s : Dev nD) (q : PosShare TreeShare) (f : Blocks F) : sProp 𝕄 := ((c : Thread nD τ).loc cc0_scratch0) ↦[slotSet s]{q} f
/-- Slot `s` of device `c`'s landing buffer. -/
def acS (c s : Dev nD) (q : PosShare TreeShare) (f : Blocks F) : sProp 𝕄 := ((c : Thread nD τ).loc cc0_scratch1) ↦[slotSet s]{q} f
/-- Slot `s` of device `c`'s gathering buffer. -/
def gaS (c s : Dev nD) (q : PosShare TreeShare) (f : Blocks F) : sProp 𝕄 := ((c : Thread nD τ).loc cc0_scratch2) ↦[slotSet s]{q} f

omit [FloatOps F] in
instance pfS_storable (c s : Dev nD) (q) (f : Blocks F) : BI.Storable (upEmb : UEmb _ 𝕄) (pfS c s q f) := by unfold pfS; infer_instance
omit [FloatOps F] in
instance acS_storable (c s : Dev nD) (q) (f : Blocks F) : BI.Storable (upEmb : UEmb _ 𝕄) (acS c s q f) := by unfold acS; infer_instance
omit [FloatOps F] in
instance gaS_storable (c s : Dev nD) (q) (f : Blocks F) : BI.Storable (upEmb : UEmb _ 𝕄) (gaS c s q f) := by unfold gaS; infer_instance

/-- A transfer of slot `t` of an array of partial results into slot `s` of a landing buffer leaves there what the
    landing buffer of `t` is to hold in slot `s`. -/
theorem landed_ac (s t : Dev nD) (hs ht) (fd : Blocks F) :
    ∀ i ∈ slotSet s, (slotM acM (so s) hs).view.write (Elt F) fd ((slotM pfM (so t) ht).view.read (Elt F) (PV s)) Finset.univ i = accV PV t i := by
  intro i hi
  rw [← ac_set s hs] at hi
  obtain ⟨y, -, rfl⟩ := Finset.mem_map.mp hi
  rw [View.write_emb_of_mem _ _ (Finset.mem_univ _), View.read_apply]
  show PV s (ri t ht _) = PV (lead (ri s hs _)) (put t (ri s hs _))
  rw [lead_ri, put_ri t s hs ht]

/-- A transfer of slot `s` between two gathering buffers copies it. -/
theorem landed_ga (s : Dev nD) (hs ht) (fd f : Blocks F) :
    ∀ i ∈ slotSet s, (slotM gaM (so s) hs).view.write (Elt F) fd ((slotM gaM (so s) ht).view.read (Elt F) f) Finset.univ i = f i := by
  intro i hi
  rw [← ga_set s hs] at hi
  obtain ⟨y, -, rfl⟩ := Finset.mem_map.mp hi
  rw [View.write_emb_of_mem _ _ (Finset.mem_univ _), View.read_apply]
  rfl

/-- What the copies from the key and value arrays bring: eight heads' columns. -/
abbrev kslice (c : Dev nD) : Memref sig .tc .hbm S2x128x8x64 .f32 :=
  keM.slice (Rect.unit (s := S2x128x128x64) (k0_off1 c) S2x128x8x64.size (k0_off1_inb c)) (fun _ => rfl)
abbrev vslice (c : Dev nD) : Memref sig .tc .hbm S2x128x8x64 .f32 :=
  veM.slice (Rect.unit (s := S2x128x128x64) (k0_off1 c) S2x128x8x64.size (k0_off1_inb c)) (fun _ => rfl)
def kV (c : Dev nD) : S2x128x8x64.Idx → Elt F .f32 := (kslice c).view.read (Elt F) (m ((c : Thread nD τ).loc main_arg2))
def vV (c : Dev nD) : S2x128x8x64.Idx → Elt F .f32 := (vslice c).view.read (Elt F) (m ((c : Thread nD τ).loc main_arg3))

/-- The part of the key (value) array a copy reads, and the scratch buffer it fills. -/
def keP (c : Dev nD) : sProp 𝕄 := ((c : Thread nD τ).loc main_arg2) ↦[(kslice c).view.set]{fullShare} m ((c : Thread nD τ).loc main_arg2)
def veP (c : Dev nD) : sProp 𝕄 := ((c : Thread nD τ).loc main_arg3) ↦[(vslice c).view.set]{fullShare} m ((c : Thread nD τ).loc main_arg3)
def kP (c : Dev nD) (f : S2x128x8x64.Idx → Elt F .f32) : sProp 𝕄 := ((c : Thread nD τ).loc cc0_scratch3) ↦{fullShare} f
def vP (c : Dev nD) (f : S2x128x8x64.Idx → Elt F .f32) : sProp 𝕄 := ((c : Thread nD τ).loc cc0_scratch4) ↦{fullShare} f

omit [FloatOps F] in
instance keP_storable (c : Dev nD) : BI.Storable (upEmb : UEmb _ 𝕄) (keP m c) := by unfold keP; infer_instance
omit [FloatOps F] in
instance veP_storable (c : Dev nD) : BI.Storable (upEmb : UEmb _ 𝕄) (veP m c) := by unfold veP; infer_instance
omit [FloatOps F] in
instance kP_storable (c : Dev nD) (f) : BI.Storable (upEmb : UEmb _ 𝕄) (kP (F := F) c f) := by unfold kP; infer_instance
omit [FloatOps F] in
instance vP_storable (c : Dev nD) (f) : BI.Storable (upEmb : UEmb _ 𝕄) (vP (F := F) c f) := by unfold vP; infer_instance

/-! ## The cells -/

/-- The semaphore the runtime keeps for the barrier. -/
abbrev barS : Sem sig := (SemArray.scalar (sig.barrier 0 rfl) : Sems sig S_).sem
/-- The transfer semaphores by number: 4 to 34 the sends, 35 to 66 the arrivals of the first exchange by sender,
    67 to 98 those of the second, 99 and 100 the two copies. -/
def dsem (n : ℕ) : DmaSem sig := ⟨n % 101, Nat.mod_lt _ (by decide)⟩

abbrev barCell (c : Dev nD) : GSem nD τ sig := ((c : Thread nD τ), .reg barS)
abbrev dcell (c : Dev nD) (n : ℕ) : GSem nD τ sig := ((c : Thread nD τ), .dma (dsem n))
abbrev seCell (c : Dev nD) (j : ℕ) : GSem nD τ sig := dcell c (4 + j)
abbrev r1Cell (c s : Dev nD) : GSem nD τ sig := dcell c (35 + s.val)
abbrev r2Cell (c s : Dev nD) : GSem nD τ sig := dcell c (67 + s.val)
abbrev kvCell (c : Dev nD) (i : ℕ) : GSem nD τ sig := dcell c (99 + i)

/-- The semaphore an element of an array of consecutive ones names. -/
theorem sem_elem {n : ℕ} (base z s : ℕ) (h : base + (⟨1, ![z]⟩ : Shape).numel ≤ n) (hs : ∀ a, (![s] : Fin 1 → ℕ) a + S1.size a ≤ (⟨1, ![z]⟩ : Shape).size a) :
    ((((SemArray.consecutive base ⟨1, ![z]⟩ h).slice (Rect.unit (s := ⟨1, ![z]⟩) ![s] S1.size hs)).squeeze S_ squeezes_S1_S_).sem : Fin n).val = base + s := by
  set y : (⟨1, ![z]⟩ : Shape).Idx := (Rect.unit (s := ⟨1, ![z]⟩) ![s] S1.size hs).emb (Shape.reshapeEquiv squeezes_S1_S_.numel_eq fun i => i.elim0) with hy
  show base + (Shape.rowMajor (⟨1, ![z]⟩ : Shape) y).val = base + s
  rw [Shape.rowMajor_val_one]
  have h1 : (y 0).val = s + 1 * ((Shape.reshapeEquiv squeezes_S1_S_.numel_eq (fun i : Fin 0 => i.elim0) : S1.Idx) 0).val := rfl
  have h2 : ((Shape.reshapeEquiv squeezes_S1_S_.numel_eq (fun i : Fin 0 => i.elim0) : S1.Idx) 0).val < 1 := Fin.isLt _
  omega

/-- The semaphore of the `j`-th send. -/
theorem se_sem (o : Fin 1 → ℕ) (j : ℕ) (hj : j < 31) (ho : o = ![j]) (h) :
    ((cc0_scratch5.slice (Rect.unit (s := S31) o S1.size h)).squeeze S_ squeezes_S1_S_).sem = dsem (4 + j) := by
  subst ho
  exact Fin.ext ((sem_elem 4 31 j _ h).trans (Nat.mod_eq_of_lt (by omega)).symm)
/-- The semaphore of an arrival of the first exchange. -/
theorem r1_sem (o : Fin 1 → ℕ) (s : Dev nD) (ho : o = ![s.val]) (h) :
    ((cc0_scratch6.slice (Rect.unit (s := S32) o S1.size h)).squeeze S_ squeezes_S1_S_).sem = dsem (35 + s.val) := by
  subst ho
  have hs := s.isLt; change s.val < 32 at hs
  exact Fin.ext ((sem_elem 35 32 s.val _ h).trans (Nat.mod_eq_of_lt (by omega)).symm)
/-- The semaphore of an arrival of the second exchange. -/
theorem r2_sem (o : Fin 1 → ℕ) (s : Dev nD) (ho : o = ![s.val]) (h) :
    ((cc0_scratch7.slice (Rect.unit (s := S32) o S1.size h)).squeeze S_ squeezes_S1_S_).sem = dsem (67 + s.val) := by
  subst ho
  have hs := s.isLt; change s.val < 32 at hs
  exact Fin.ext ((sem_elem 67 32 s.val _ h).trans (Nat.mod_eq_of_lt (by omega)).symm)
/-- The semaphores of the two copies. -/
theorem kv_sem (o : Fin 1 → ℕ) (i : ℕ) (hi : i < 2) (ho : o = ![i]) (h) :
    ((cc0_scratch8.slice (Rect.unit (s := S2) o S1.size h)).squeeze S_ squeezes_S1_S_).sem = dsem (99 + i) := by
  subst ho
  exact Fin.ext ((sem_elem 99 2 i _ h).trans (Nat.mod_eq_of_lt (by omega)).symm)

/-- The units one transfer of a block raises its semaphores by, and those a copy raises its own by. -/
abbrev N : ℕ := (slotM acM (so 0) (so_inb 0)).view.dmaCredit
abbrev NK : ℕ := (kM : Memref sig .tc .vmem S2x128x8x64 .f32).view.dmaCredit
theorem N_pos : 0 < N := View.dmaCredit_pos _ (by decide)
theorem NK_pos : 0 < NK := View.dmaCredit_pos _ (by decide)

/-! ## The schedule -/

/-- The share of its summed block device `c` lends to its `j`-th send of the second exchange. -/
def shr (j : ℕ) : PosShare TreeShare := piece fullShare.right 30 ⟨j % 31, Nat.mod_lt _ (by decide)⟩

/-- What a raise of device `q`'s barrier by the device `d + 1` places after it hands over: that device's slots for `q`
    in both of its buffers. -/
def barPay (q : Dev nD) (d : ℕ) : sProp 𝕄 := iprop((∃ f, acS (nx q d) q fullShare f) ∗ (∃ f, gaS (nx q d) q fullShare f))

/-- What a transfer semaphore's raise hands to device `c`, by the semaphore's number and the round. -/
def dmaPay (c : Dev nD) (n r : ℕ) : sProp 𝕄 :=
  if n < 4 then iprop(emp)
  else if n < 35 then (if r = 0 then pfS c (nx c (n - 4)) fullShare (PV c) else gaS c c (shr (n - 4)) (gathV PV))
  else if n < 67 then acS c ⟨(n - 35) % 32, Nat.mod_lt _ (by decide)⟩ fullShare (accV PV c)
  else if n < 99 then gaS c ⟨(n - 67) % 32, Nat.mod_lt _ (by decide)⟩ fullShare (gathV PV)
  else if n = 99 then iprop(kP c (kV m c) ∗ keP m c) else iprop(vP c (vV m c) ∗ veP m c)

/-- Whether a transfer semaphore is raised in a round. -/
def dmaOn (c : Dev nD) (n r : ℕ) : Prop :=
  (4 ≤ n ∧ n < 35 ∧ r < 2) ∨ (35 ≤ n ∧ n < 99 ∧ r = 0 ∧ n ≠ 35 + c.val ∧ n ≠ 67 + c.val) ∨ (99 ≤ n ∧ r = 0)

instance (c n r) : Decidable (dmaOn c n r) := by unfold dmaOn; infer_instance

/-- The schedule: a barrier is raised 31 times by one, once by each peer; a send's semaphore twice, in two rounds;
    every other transfer semaphore once, those a device keeps for itself never. -/
def Rd : Rounds.Schedule (GSem nD τ sig) ℕ 𝕄 where
  duties g r := match g.2 with
    | .reg _ => if r = 0 then Finset.range 31 else ∅
    | .dma q => if dmaOn g.1.1 q.val r then {0} else ∅
  unitless _ := False
  amount g _ _ := match g.2 with
    | .reg _ => 1
    | .dma q => if q.val < 99 then N else NK
  payload g r d := match g.2 with
    | .reg _ => barPay g.1.1 d
    | .dma q => dmaPay m PV g.1.1 q.val r
  amount_pos g r d _ := by
    rcases g with ⟨g1, (s | q)⟩
    · exact Nat.one_pos
    · show 0 < if q.val < 99 then N else NK
      split
      · exact N_pos
      · exact NK_pos

instance payload_storable (g : GSem nD τ sig) (r d : ℕ) : BI.Storable (upEmb : UEmb _ 𝕄) ((Rd m PV).payload g r d) := by
  rcases g with ⟨g1, (s | q)⟩
  · show BI.Storable upEmb (barPay g1.1 d)
    unfold barPay; infer_instance
  · show BI.Storable upEmb (dmaPay m PV g1.1 q.val r)
    unfold dmaPay
    (repeat' split) <;> infer_instance

section Tables
variable (c : Dev nD)

theorem dsem_val {n : ℕ} (h : n < 101) : (dsem n).val = n := Nat.mod_eq_of_lt h

theorem duties_bar : (Rd m PV).duties (barCell c) 0 = Finset.range 31 := by show (if (0 : ℕ) = 0 then Finset.range 31 else ∅) = _; exact if_pos rfl
theorem duties_dma {n : ℕ} (h : n < 101) (r : ℕ) : (Rd m PV).duties (dcell c n) r = if dmaOn c n r then {0} else ∅ := by
  show (if dmaOn c (dsem n).val r then {0} else ∅) = _; rw [dsem_val h]
theorem duties_on {n r : ℕ} (h : n < 101) (ho : dmaOn c n r) : (Rd m PV).duties (dcell c n) r = {0} := by rw [duties_dma m PV c h, if_pos ho]
theorem amount_bar (d : ℕ) : (Rd m PV).amount (barCell c) 0 d = 1 := rfl
theorem amount_lo {n : ℕ} (h : n < 99) (r d : ℕ) : (Rd m PV).amount (dcell c n) r d = N := by
  show (if (dsem n).val < 99 then N else NK) = N; rw [dsem_val (by omega), if_pos h]
theorem amount_hi {n : ℕ} (h : 99 ≤ n) (h' : n < 101) (r d : ℕ) : (Rd m PV).amount (dcell c n) r d = NK := by
  show (if (dsem n).val < 99 then N else NK) = NK; rw [dsem_val h', if_neg (by omega)]
theorem expect_bar : (Rd m PV).expect (barCell c) 0 = 31 := by
  unfold Schedule.expect Schedule.amountOf
  rw [duties_bar, Finset.sum_congr rfl fun d _ => amount_bar m PV c d, Finset.sum_const, Finset.card_range, smul_eq_mul]
theorem expect_lo {n r : ℕ} (h : n < 99) (ho : dmaOn c n r) : (Rd m PV).expect (dcell c n) r = N := by
  unfold Schedule.expect Schedule.amountOf; rw [duties_on m PV c (by omega) ho, Finset.sum_singleton, amount_lo m PV c h]
theorem expect_hi {n r : ℕ} (h : 99 ≤ n) (h' : n < 101) (ho : dmaOn c n r) : (Rd m PV).expect (dcell c n) r = NK := by
  unfold Schedule.expect Schedule.amountOf; rw [duties_on m PV c h' ho, Finset.sum_singleton, amount_hi m PV c h h']
theorem payload_bar (d : ℕ) : (Rd m PV).payload (barCell c) 0 d = barPay c d := rfl
theorem payload_dma {n : ℕ} (h : n < 101) (r d : ℕ) : (Rd m PV).payload (dcell c n) r d = dmaPay m PV c n r := by
  show dmaPay m PV c (dsem n).val r = _; rw [dsem_val h]
theorem rest_bar : bigSep ((Rd m PV).duties (barCell c) 0 \ ∅) (fun d => (Rd m PV).payload (barCell c) 0 d) = bigSep (Finset.range 31) (fun d => barPay (F := F) c d) := by
  rw [Finset.sdiff_empty, duties_bar]; rfl
theorem rest_dma {n r : ℕ} (h : n < 101) (ho : dmaOn c n r) :
    bigSep ((Rd m PV).duties (dcell c n) r \ ∅) (fun d => (Rd m PV).payload (dcell c n) r d) = dmaPay m PV c n r := by
  rw [Finset.sdiff_empty, duties_on m PV c h ho, bigSep_singleton, payload_dma m PV c h]

theorem on_se {j r : ℕ} (hj : j < 31) (hr : r < 2) : dmaOn c (4 + j) r := Or.inl ⟨by omega, by omega, hr⟩
theorem on_r1 {s : Dev nD} (h : s ≠ c) : dmaOn c (35 + s.val) 0 := by
  have hs := s.isLt; change s.val < 32 at hs
  have hc := c.isLt; change c.val < 32 at hc
  exact Or.inr (Or.inl ⟨by omega, by omega, rfl, fun e => h (Fin.ext (by omega)), by omega⟩)
theorem on_r2 {s : Dev nD} (h : s ≠ c) : dmaOn c (67 + s.val) 0 := by
  have hs := s.isLt; change s.val < 32 at hs
  have hc := c.isLt; change c.val < 32 at hc
  exact Or.inr (Or.inl ⟨by omega, by omega, rfl, by omega, fun e => h (Fin.ext (by omega))⟩)
theorem on_kv {i : ℕ} : dmaOn c (99 + i) 0 := Or.inr (Or.inr ⟨by omega, rfl⟩)

theorem pay_se0 {j : ℕ} (hj : j < 31) : dmaPay m PV c (4 + j) 0 = pfS c (nx c j) fullShare (PV c) := by
  unfold dmaPay; rw [if_neg (by omega), if_pos (by omega), if_pos rfl, Nat.add_sub_cancel_left]
theorem pay_se1 {j : ℕ} (hj : j < 31) : dmaPay m PV c (4 + j) 1 = gaS c c (shr j) (gathV PV) := by
  unfold dmaPay; rw [if_neg (by omega), if_pos (by omega), if_neg (by omega), Nat.add_sub_cancel_left]
theorem pay_r1 (s : Dev nD) : dmaPay m PV c (35 + s.val) 0 = acS c s fullShare (accV PV c) := by
  have hs := s.isLt; change s.val < 32 at hs
  unfold dmaPay; rw [if_neg (by omega), if_neg (by omega), if_pos (by omega)]
  congr 1; exact Fin.ext (by show (35 + s.val - 35) % 32 = s.val; omega)
theorem pay_r2 (s : Dev nD) : dmaPay m PV c (67 + s.val) 0 = gaS c s fullShare (gathV PV) := by
  have hs := s.isLt; change s.val < 32 at hs
  unfold dmaPay; rw [if_neg (by omega), if_neg (by omega), if_neg (by omega), if_pos (by omega)]
  congr 1; exact Fin.ext (by show (67 + s.val - 67) % 32 = s.val; omega)
theorem pay_k : dmaPay m PV c 99 0 = iprop(kP c (kV m c) ∗ keP m c) := by
  unfold dmaPay; rw [if_neg (by omega), if_neg (by omega), if_neg (by omega), if_neg (by omega), if_pos rfl]
theorem pay_v : dmaPay m PV c 100 0 = iprop(vP c (vV m c) ∗ veP m c) := by
  unfold dmaPay; rw [if_neg (by omega), if_neg (by omega), if_neg (by omega), if_neg (by omega), if_neg (by omega)]

/-- No cell is raised after round 1, and none but a send's after round 0. -/
theorem duties_two (g : GSem nD τ sig) : ∀ r, 2 ≤ r → (Rd m PV).duties g r = ∅ := fun r hr => by
  rcases g with ⟨g1, (s | q)⟩
  · show (if r = 0 then Finset.range 31 else ∅) = ∅; exact if_neg (by omega)
  · show (if dmaOn g1.1 q.val r then {0} else ∅) = (∅ : Finset ℕ)
    refine if_neg fun h => ?_
    rcases h with h | h | h <;> omega
theorem duties_one_bar : ∀ r, 1 ≤ r → (Rd m PV).duties (barCell c) r = ∅ := fun r hr => by
  show (if r = 0 then Finset.range 31 else ∅) = ∅; exact if_neg (by omega)
theorem duties_one {n : ℕ} (h : n < 101) (hn : 35 ≤ n) : ∀ r, 1 ≤ r → (Rd m PV).duties (dcell c n) r = ∅ := fun r hr => by
  rw [duties_dma m PV c h]; refine if_neg fun h => ?_
  rcases h with h | h | h <;> omega
theorem duties_own1 : ∀ r, 0 ≤ r → (Rd m PV).duties (r1Cell c c) r = ∅ := fun r hr => by
  have hc := c.isLt; change c.val < 32 at hc
  rw [duties_dma m PV c (by omega)]; refine if_neg fun h => ?_
  rcases h with h | h | h <;> omega
theorem duties_own2 : ∀ r, 0 ≤ r → (Rd m PV).duties (r2Cell c c) r = ∅ := fun r hr => by
  have hc := c.isLt; change c.val < 32 at hc
  rw [duties_dma m PV c (by omega)]; refine if_neg fun h => ?_
  rcases h with h | h | h <;> omega

end Tables

end Cert.KernelIdeal.Sync

end
-- ==== Proof.IdealProg.lean ====
/-
The kernel's body written as loops over the peers: the same operations in the same order.
-/
module

public import proofs.«01_k».proof.Proof.IdealProto

@[expose] public section

noncomputable section

namespace Cert.KernelIdeal.Sync

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The programs of the kernel's core. -/
abbrev Pr (F : FTy → Type) [FloatOps F] : Type 1 := Prog (TpuEff nD τ sig (Elt F) Λ₀ .tc) PUnit

/-- `n` rounds of `f` from index `j`, then `k`. -/
def run (f : Fin 31 → Pr F → Pr F) : ℕ → ℕ → Pr F → Pr F
  | _, 0, k => k
  | j, n + 1, k => f ⟨j % 31, Nat.mod_lt _ (by decide)⟩ (run f (j + 1) n k)

/-- The devices the body names: those it signals, and those it sends to in the first and in the second exchange. -/
def sigDev (c : Dev nD) : Fin 31 → Dev nD :=
  ![⟨k0_dev1 c, k0_dev1_lt c⟩, ⟨k0_dev2 c, k0_dev2_lt c⟩, ⟨k0_dev3 c, k0_dev3_lt c⟩, ⟨k0_dev4 c, k0_dev4_lt c⟩,
    ⟨k0_dev5 c, k0_dev5_lt c⟩, ⟨k0_dev6 c, k0_dev6_lt c⟩, ⟨k0_dev7 c, k0_dev7_lt c⟩, ⟨k0_dev8 c, k0_dev8_lt c⟩,
    ⟨k0_dev9 c, k0_dev9_lt c⟩, ⟨k0_dev10 c, k0_dev10_lt c⟩, ⟨k0_dev11 c, k0_dev11_lt c⟩, ⟨k0_dev12 c, k0_dev12_lt c⟩,
    ⟨k0_dev13 c, k0_dev13_lt c⟩, ⟨k0_dev14 c, k0_dev14_lt c⟩, ⟨k0_dev15 c, k0_dev15_lt c⟩, ⟨k0_dev16 c, k0_dev16_lt c⟩,
    ⟨k0_dev17 c, k0_dev17_lt c⟩, ⟨k0_dev18 c, k0_dev18_lt c⟩, ⟨k0_dev19 c, k0_dev19_lt c⟩, ⟨k0_dev20 c, k0_dev20_lt c⟩,
    ⟨k0_dev21 c, k0_dev21_lt c⟩, ⟨k0_dev22 c, k0_dev22_lt c⟩, ⟨k0_dev23 c, k0_dev23_lt c⟩, ⟨k0_dev24 c, k0_dev24_lt c⟩,
    ⟨k0_dev25 c, k0_dev25_lt c⟩, ⟨k0_dev26 c, k0_dev26_lt c⟩, ⟨k0_dev27 c, k0_dev27_lt c⟩, ⟨k0_dev28 c, k0_dev28_lt c⟩,
    ⟨k0_dev29 c, k0_dev29_lt c⟩, ⟨k0_dev30 c, k0_dev30_lt c⟩, ⟨k0_dev31 c, k0_dev31_lt c⟩]
def sendDev1 (c : Dev nD) : Fin 31 → Dev nD :=
  ![⟨k0_dev32 c, k0_dev32_lt c⟩, ⟨k0_dev33 c, k0_dev33_lt c⟩, ⟨k0_dev34 c, k0_dev34_lt c⟩, ⟨k0_dev35 c, k0_dev35_lt c⟩,
    ⟨k0_dev36 c, k0_dev36_lt c⟩, ⟨k0_dev37 c, k0_dev37_lt c⟩, ⟨k0_dev38 c, k0_dev38_lt c⟩, ⟨k0_dev39 c, k0_dev39_lt c⟩,
    ⟨k0_dev40 c, k0_dev40_lt c⟩, ⟨k0_dev41 c, k0_dev41_lt c⟩, ⟨k0_dev42 c, k0_dev42_lt c⟩, ⟨k0_dev43 c, k0_dev43_lt c⟩,
    ⟨k0_dev44 c, k0_dev44_lt c⟩, ⟨k0_dev45 c, k0_dev45_lt c⟩, ⟨k0_dev46 c, k0_dev46_lt c⟩, ⟨k0_dev47 c, k0_dev47_lt c⟩,
    ⟨k0_dev48 c, k0_dev48_lt c⟩, ⟨k0_dev49 c, k0_dev49_lt c⟩, ⟨k0_dev50 c, k0_dev50_lt c⟩, ⟨k0_dev51 c, k0_dev51_lt c⟩,
    ⟨k0_dev52 c, k0_dev52_lt c⟩, ⟨k0_dev53 c, k0_dev53_lt c⟩, ⟨k0_dev54 c, k0_dev54_lt c⟩, ⟨k0_dev55 c, k0_dev55_lt c⟩,
    ⟨k0_dev56 c, k0_dev56_lt c⟩, ⟨k0_dev57 c, k0_dev57_lt c⟩, ⟨k0_dev58 c, k0_dev58_lt c⟩, ⟨k0_dev59 c, k0_dev59_lt c⟩,
    ⟨k0_dev60 c, k0_dev60_lt c⟩, ⟨k0_dev61 c, k0_dev61_lt c⟩, ⟨k0_dev62 c, k0_dev62_lt c⟩]
def sendDev2 (c : Dev nD) : Fin 31 → Dev nD :=
  ![⟨k0_dev63 c, k0_dev63_lt c⟩, ⟨k0_dev64 c, k0_dev64_lt c⟩, ⟨k0_dev65 c, k0_dev65_lt c⟩, ⟨k0_dev66 c, k0_dev66_lt c⟩,
    ⟨k0_dev67 c, k0_dev67_lt c⟩, ⟨k0_dev68 c, k0_dev68_lt c⟩, ⟨k0_dev69 c, k0_dev69_lt c⟩, ⟨k0_dev70 c, k0_dev70_lt c⟩,
    ⟨k0_dev71 c, k0_dev71_lt c⟩, ⟨k0_dev72 c, k0_dev72_lt c⟩, ⟨k0_dev73 c, k0_dev73_lt c⟩, ⟨k0_dev74 c, k0_dev74_lt c⟩,
    ⟨k0_dev75 c, k0_dev75_lt c⟩, ⟨k0_dev76 c, k0_dev76_lt c⟩, ⟨k0_dev77 c, k0_dev77_lt c⟩, ⟨k0_dev78 c, k0_dev78_lt c⟩,
    ⟨k0_dev79 c, k0_dev79_lt c⟩, ⟨k0_dev80 c, k0_dev80_lt c⟩, ⟨k0_dev81 c, k0_dev81_lt c⟩, ⟨k0_dev82 c, k0_dev82_lt c⟩,
    ⟨k0_dev83 c, k0_dev83_lt c⟩, ⟨k0_dev84 c, k0_dev84_lt c⟩, ⟨k0_dev85 c, k0_dev85_lt c⟩, ⟨k0_dev86 c, k0_dev86_lt c⟩,
    ⟨k0_dev87 c, k0_dev87_lt c⟩, ⟨k0_dev88 c, k0_dev88_lt c⟩, ⟨k0_dev89 c, k0_dev89_lt c⟩, ⟨k0_dev90 c, k0_dev90_lt c⟩,
    ⟨k0_dev91 c, k0_dev91_lt c⟩, ⟨k0_dev92 c, k0_dev92_lt c⟩, ⟨k0_dev93 c, k0_dev93_lt c⟩]

theorem sigDev_eq : ∀ (c : Dev nD) (j : Fin 31), sigDev c j = nx c j.val := by decide +kernel
theorem sendDev1_eq : ∀ (c : Dev nD) (j : Fin 31), sendDev1 c j = nx c j.val := by decide +kernel
theorem sendDev2_eq : ∀ (c : Dev nD) (j : Fin 31), sendDev2 c j = nx c j.val := by decide +kernel

/-! ## The semaphores and the slots the body names -/

theorem inb31 (j : Fin 31) : ∀ a, (![j.val] : Fin 1 → ℕ) a + S1.size a ≤ S31.size a := by
  intro a; fin_cases a; show j.val + 1 ≤ 31; omega

abbrev seS (j : Fin 31) : DmaSem sig := ((cc0_scratch5.slice (Rect.unit (s := S31) ![j.val] S1.size (inb31 j))).squeeze S_ squeezes_S1_S_).sem
abbrev r1S (c : Dev nD) : DmaSem sig := ((cc0_scratch6.slice (Rect.unit (s := S32) (k0_off2 c) S1.size (k0_off2_inb c))).squeeze S_ squeezes_S1_S_).sem
abbrev r2S (c : Dev nD) : DmaSem sig := ((cc0_scratch7.slice (Rect.unit (s := S32) (k0_off2 c) S1.size (k0_off2_inb c))).squeeze S_ squeezes_S1_S_).sem
abbrev w1S (c : Dev nD) (j : Fin 31) : DmaSem sig := ((cc0_scratch6.slice (Rect.unit (s := S32) (k0_off6 c (BitVec.ofNat 32 (1 + j.val))) S1.size (k0_off6_inb c j))).squeeze S_ squeezes_S1_S_).sem
abbrev w2S (c : Dev nD) (j : Fin 31) : DmaSem sig := ((cc0_scratch7.slice (Rect.unit (s := S32) (k0_off6 c (BitVec.ofNat 32 (1 + j.val))) S1.size (k0_off6_inb c j))).squeeze S_ squeezes_S1_S_).sem
abbrev kS : DmaSem sig := ((cc0_scratch8.slice (Rect.unit (s := S2) ![0] S1.size inb_S2_S1_0)).squeeze S_ squeezes_S1_S_).sem
abbrev vS : DmaSem sig := ((cc0_scratch8.slice (Rect.unit (s := S2) ![1] S1.size inb_S2_S1_1)).squeeze S_ squeezes_S1_S_).sem

abbrev pfTo (c : Dev nD) (j : Fin 31) := slotM pfM (k0_off4 c (BitVec.ofNat 32 (1 + j.val))) (k0_off4_inb c j)
abbrev acMine (c : Dev nD) := slotM acM (k0_off3 c) (k0_off3_inb c)
abbrev gaMine (c : Dev nD) := slotM gaM (k0_off3 c) (k0_off3_inb c)
abbrev acFrom (c : Dev nD) (j : Fin 31) := slotM acM (k0_off7 c (BitVec.ofNat 32 (1 + j.val))) (k0_off7_inb c j)
abbrev gaFrom (c : Dev nD) (j : Fin 31) := slotM gaM (k0_off7 c (BitVec.ofNat 32 (1 + j.val))) (k0_off7_inb c j)

/-! ## The evidence of word alignment the transfers carry -/

theorem pfTo_we (c : Dev nD) (j : Fin 31) : (pfTo c j).view.WordExact := ((Memref.isWhole_whole cc0_scratch0).wordExact_slice rfl _ (k0_off4_wordsbf16 c j)).reshape _ _
theorem acMine_we (c : Dev nD) : (acMine c).view.WordExact := ((Memref.isWhole_whole cc0_scratch1).wordExact_slice rfl _ (k0_off3_wordsbf16 c)).reshape _ _
theorem gaMine_we (c : Dev nD) : (gaMine c).view.WordExact := ((Memref.isWhole_whole cc0_scratch2).wordExact_slice rfl _ (k0_off3_wordsbf16 c)).reshape _ _
theorem acFrom_we (c : Dev nD) (j : Fin 31) : (acFrom c j).view.WordExact := ((Memref.isWhole_whole cc0_scratch1).wordExact_slice rfl _ (k0_off7_wordsbf16 c j)).reshape _ _
theorem gaFrom_we (c : Dev nD) (j : Fin 31) : (gaFrom c j).view.WordExact := ((Memref.isWhole_whole cc0_scratch2).wordExact_slice rfl _ (k0_off7_wordsbf16 c j)).reshape _ _

/-! ## The stretches of the body -/

/-- Start the copies of the key and the value columns. -/
def copyK (c : Dev nD) (k : Pr F) : Pr F :=
  .op (.enqueueDma (kslice c) (.here kM) (.dma kS) (View.wordExact_bits rfl) (Memref.isWhole_whole cc0_scratch3).wordExact ⟨Or.inl rfl, trivial⟩) fun _ => k
def copyV (c : Dev nD) (k : Pr F) : Pr F :=
  .op (.enqueueDma (vslice c) (.here vM) (.dma vS) (View.wordExact_bits rfl) (Memref.isWhole_whole cc0_scratch4).wordExact ⟨Or.inl rfl, trivial⟩) fun _ => k
/-- Wait for them. -/
def waitK (c : Dev nD) (k : Pr F) : Pr F :=
  .op (.waitDma2 kS (kslice c) kM (View.wordExact_bits rfl) (Memref.isWhole_whole cc0_scratch3).wordExact) fun _ => k
def waitV (c : Dev nD) (k : Pr F) : Pr F :=
  .op (.waitDma2 vS (vslice c) vM (View.wordExact_bits rfl) (Memref.isWhole_whole cc0_scratch4).wordExact) fun _ => k

/-- Signal a peer's barrier. -/
def signal (c : Dev nD) (j : Fin 31) (k : Pr F) : Pr F :=
  .op (.semSignal (sigDev c j, .tc) barS (1#32).toInt) fun _ => k
/-- Wait for the barrier. -/
def barrier (k : Pr F) : Pr F := .op (.semWait barS (31#32).toInt) fun _ => k

/-- Send a block of the partial results to a peer. -/
def send1 (c : Dev nD) (j : Fin 31) (k : Pr F) : Pr F :=
  .op (.enqueueDma (pfTo c j) (.remote (Dev.tc (sendDev1 c j)) (acMine c) (.dma (seS j))) (.dma (r1S c)) (pfTo_we c j) (acMine_we c) ⟨⟨rfl, Or.inl rfl⟩, trivial⟩) fun _ => k
/-- Wait for a peer's block. -/
def wait1 (c : Dev nD) (j : Fin 31) (k : Pr F) : Pr F :=
  .op (.waitDma2 (w1S c j) (acFrom c j) (acFrom c j) (acFrom_we c j) (acFrom_we c j)) fun _ => k
/-- Wait for a send of the first exchange to be read out. -/
def done1 (c : Dev nD) (j : Fin 31) (k : Pr F) : Pr F :=
  .op (.waitDma2 (seS j) (acMine c) (pfTo c j) (acMine_we c) (pfTo_we c j)) fun _ => k
/-- Send the summed block to a peer. -/
def send2 (c : Dev nD) (j : Fin 31) (k : Pr F) : Pr F :=
  .op (.enqueueDma (gaMine c) (.remote (Dev.tc (sendDev2 c j)) (gaMine c) (.dma (seS j))) (.dma (r2S c)) (gaMine_we c) (gaMine_we c) ⟨⟨rfl, Or.inl rfl⟩, trivial⟩) fun _ => k
/-- Wait for a peer's summed block. -/
def wait2 (c : Dev nD) (j : Fin 31) (k : Pr F) : Pr F :=
  .op (.waitDma2 (w2S c j) (gaFrom c j) (gaFrom c j) (gaFrom_we c j) (gaFrom_we c j)) fun _ => k
/-- Wait for a send of the second exchange to be read out. -/
def done2 (c : Dev nD) (j : Fin 31) (k : Pr F) : Pr F :=
  .op (.waitDma2 (seS j) (gaMine c) (gaMine c) (gaMine_we c) (gaMine_we c)) fun _ => k

/-- Which half of the eight columns device `c` works on. -/
def bit (c : Dev nD) : BitVec 1 :=
  let v2 : BitVec 32 := Scalar.remsi (Scalar.divsi (Dev.word c) 1#32) 32#32
  let v22 : BitVec 32 := Scalar.select (Scalar.cmpi .eq 2#32 0#32) 1#32 2#32
  let v23 : BitVec 32 := Scalar.remsi v2 v22
  Scalar.cmpi .eq (Scalar.select (Scalar.andi (Scalar.xori (Scalar.cmpi .slt v23 0#32) (Scalar.cmpi .slt v22 0#32)) (Scalar.cmpi .ne v23 0#32)) (Scalar.addi v23 v22) v23) 1#32

abbrev kvR0 := Rect.unit (s := S2x128x8x64) ![0, 0, 0, 0] S1x128x8x64.size inb_S2x128x8x64_S1x128x8x64_0_0_0_0
abbrev kvR1 := Rect.unit (s := S2x128x8x64) ![1, 0, 0, 0] S1x128x8x64.size inb_S2x128x8x64_S1x128x8x64_1_0_0_0

/-- The queries, from the activations and the device's columns of the query weights. -/
def qOf (x : Vec F S2x128x512 .f32) (wq : Vec F S512x256 .f32) : FVec F S256x256 .f32 := k0_pay1 x wq

/-- The partial results: from the queries, the keys and values of both batches (`ka`, `va` the first, `kb`, `vb` the
    second), and the device's rows of the output weights. -/
def partOf (b : BitVec 1) (x : Vec F S2x128x512 .f32) (wq : Vec F S512x256 .f32) (ka va kb vb : Vec F S1x128x8x64 .f32) (wo : Vec F S256x512 .f32) :
    Blocks F :=
  let q := qOf x wq
  let vv := k0_pay2 va
  let kk := k0_pay3 b ka
  let k1 := k0_pay10 b kb
  let v1 := k0_pay11 b vb
  k0_pay17 q (k0_pay9 q kk (k0_pay4 b vv) (k0_pay5 b q vv kk) (k0_pay6 b q vv kk) (k0_pay7 q kk) (k0_pay8 q kk)) k1 v1
    (k0_pay13 v1 (k0_pay12 b q kb) (Scalar.ofBits .f32 0x3E000000#32)) (k0_pay14 q k1 v1) (k0_pay15 q k1) (k0_pay16 v1) wo

/-- Compute the partial results and put them into their array. -/
def compute (c : Dev nD) (k : Pr F) : Pr F :=
  .op (.load xM (Rect.unit (s := S2x128x512) ![0, 0, 0] S2x128x512.size inb_S2x128x512_S2x128x512_0_0_0).toLoadRect (View.loadsAt_vmem h_S2x128x512)) fun x =>
  .op (.load wqM (Rect.unit (s := S512x256) ![0, 0] S512x256.size inb_S512x256_S512x256_0_0).toLoadRect (View.loadsAt_vmem h_S512x256)) fun wq =>
  waitK c <| waitV c <|
  .op (.load kM kvR0.toLoadRect (View.loadsAt_vmem h_S1x128x8x64)) fun ka =>
  .op (.load vM kvR0.toLoadRect (View.loadsAt_vmem h_S1x128x8x64)) fun va =>
  .op (.load kM kvR1.toLoadRect (View.loadsAt_vmem h_S1x128x8x64)) fun kb =>
  .op (.load vM kvR1.toLoadRect (View.loadsAt_vmem h_S1x128x8x64)) fun vb =>
  .op (.load woM (Rect.unit (s := S256x512) ![0, 0] S256x512.size inb_S256x512_S256x512_0_0).toLoadRect (View.loadsAt_vmem h_S256x512)) fun wo =>
  .op (.load pfM (Rect.unit (s := S32x16x256) ![0, 0, 0] S32x16x256.size inb_S32x16x256_S32x16x256_0_0_0).toLoadRect (View.loadsAt_vmem h_S32x16x256)) fun _ =>
  .op (.store pfM (Rect.unit (s := S32x16x256) ![0, 0, 0] S32x16x256.size inb_S32x16x256_S32x16x256_0_0_0) (partOf (bit c) x wq ka va kb vb wo) Finset.univ
    (View.stores_vmem h_S32x16x256 ((Memref.isWhole_whole cc0_scratch0).storeExact_slice rfl _ packedbf16_S32x16x256_S32x16x256_0_0_0) (fun _ => rfl)) (.inl rfl)) fun _ => k

abbrev ownR (c : Dev nD) := Rect.unit (s := S32x16x256) (k0_off5 c) S1x16x256.size (k0_off5_inb c)

/-- Put the device's own block into its landing buffer. -/
def own (c : Dev nD) (k : Pr F) : Pr F :=
  .op (.load pfM (ownR c).toLoadRect (View.loadsAt_vmem h_S1x16x256)) fun v =>
  .op (.load acM (ownR c).toLoadRect (View.loadsAt_vmem h_S1x16x256)) fun _ =>
  .op (.store acM (ownR c) (k0_pay18 v) Finset.univ
    (View.stores_vmem h_S1x16x256 ((Memref.isWhole_whole cc0_scratch1).storeExact_slice rfl _ (k0_off5_packedbf16 c)) (fun _ => rfl)) (.inl rfl)) fun _ => k

/-- Sum the 32 blocks and put the sum into the device's own slot of the gathering buffer. -/
def reduce (c : Dev nD) (k : Pr F) : Pr F :=
  .op (.load acM (Rect.unit (s := S32x16x256) ![0, 0, 0] S32x16x256.size inb_S32x16x256_S32x16x256_0_0_0).toLoadRect (View.loadsAt_vmem h_S32x16x256)) fun v =>
  .op (.load gaM (ownR c).toLoadRect (View.loadsAt_vmem h_S1x16x256)) fun _ =>
  .op (.store gaM (ownR c) (k0_pay19 v) Finset.univ
    (View.stores_vmem h_S1x16x256 ((Memref.isWhole_whole cc0_scratch2).storeExact_slice rfl _ (k0_off5_packedbf16 c)) (fun _ => rfl)) (.inl rfl)) fun _ => k

/-- Read the 32 sums and store the result. -/
def result (k : Pr F) : Pr F :=
  .op (.load gaM (Rect.unit (s := S32x16x256) ![0, 0, 0] S32x16x256.size inb_S32x16x256_S32x16x256_0_0_0).toLoadRect (View.loadsAt_vmem h_S32x16x256)) fun v =>
  .op (.load oM (Rect.unit (s := S2x128x512) ![0, 0, 0] S2x128x512.size inb_S2x128x512_S2x128x512_0_0_0).toLoadRect (View.loadsAt_vmem h_S2x128x512)) fun _ =>
  .op (.store oM (Rect.unit (s := S2x128x512) ![0, 0, 0] S2x128x512.size inb_S2x128x512_S2x128x512_0_0_0) (k0_pay20 v) Finset.univ
    (View.stores_vmem_bits_univ h_S2x128x512 rfl) (.inl rfl)) fun _ => k

/-- The whole body on device `c`. -/
def body (c : Dev nD) : Pr F :=
  copyK c <| copyV c <| run (signal c) 0 31 <| compute c <| barrier <| run (send1 c) 0 31 <| own c <| run (wait1 c) 0 31 <|
  run (done1 c) 0 31 <| reduce c <| run (send2 c) 0 31 <| run (wait2 c) 0 31 <| result <| run (done2 c) 0 31 <| .ret ⟨⟩

/-- The printed body is these stretches in order. -/
theorem body_eq :
    cc0_body (F := F) xM (Memref.isWhole_whole _) wqM (Memref.isWhole_whole _) keM (Memref.isWhole_whole _) veM (Memref.isWhole_whole _)
      woM (Memref.isWhole_whole _) oM (Memref.isWhole_whole _) pfM (Memref.isWhole_whole _) acM (Memref.isWhole_whole _) gaM (Memref.isWhole_whole _)
      kM (Memref.isWhole_whole _) vM (Memref.isWhole_whole _) cc0_scratch5 cc0_scratch6 cc0_scratch7 cc0_scratch8
      = .op .deviceId fun c => body c := by
  rw [cc0_body_eq_skeleton]
  chain_rfl

end Cert.KernelIdeal.Sync

end
-- ==== Proof.IdealSteps.lean ====
/-
One lemma for each operation the body performs in a loop, and the loops.
-/
module

public import proofs.«01_k».proof.Proof.IdealProg
public import Idealize.SL.BI.BigOpNat
public import Mathlib.Algebra.BigOperators.Intervals

@[expose] public section

noncomputable section

namespace Cert.KernelIdeal.Sync

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (PV : Dev nD → Blocks F)

/-! ## What a device owes, and the levels -/

/-- The raises a device still owes from its `k`-th on: of the peers' barriers, and of the arrivals of the two exchanges. -/
def oBar (c : Dev nD) (k : ℕ) : CellTallies nD τ sig Unit := ∑ j ∈ Finset.Ico k 31, tallyAt (barCell (nx c j)) () 1
def oR1 (c : Dev nD) (k : ℕ) : CellTallies nD τ sig Unit := ∑ j ∈ Finset.Ico k 31, tallyAt (r1Cell (nx c j) c) () N
def oR2 (c : Dev nD) (k : ℕ) : CellTallies nD τ sig Unit := ∑ j ∈ Finset.Ico k 31, tallyAt (r2Cell (nx c j) c) () N
/-- All it owes at launch. -/
def O₀ (c : Dev nD) : CellTallies nD τ sig Unit := oR2 c 0 + oR1 c 0 + oBar c 0

theorem oBar_step (c : Dev nD) {k : ℕ} (h : k < 31) : oBar c k = oBar c (k + 1) + tallyAt (barCell (nx c k)) () 1 := by
  unfold oBar; rw [Finset.sum_eq_sum_Ico_succ_bot h, add_comm]
theorem oR1_step (c : Dev nD) {k : ℕ} (h : k < 31) : oR1 c k = oR1 c (k + 1) + tallyAt (r1Cell (nx c k) c) () N := by
  unfold oR1; rw [Finset.sum_eq_sum_Ico_succ_bot h, add_comm]
theorem oR2_step (c : Dev nD) {k : ℕ} (h : k < 31) : oR2 c k = oR2 c (k + 1) + tallyAt (r2Cell (nx c k) c) () N := by
  unfold oR2; rw [Finset.sum_eq_sum_Ico_succ_bot h, add_comm]
theorem oBar_end (c : Dev nD) : oBar c 31 = 0 := by unfold oBar; rw [Finset.Ico_self, Finset.sum_empty]
theorem oR1_end (c : Dev nD) : oR1 c 31 = 0 := by unfold oR1; rw [Finset.Ico_self, Finset.sum_empty]
theorem oR2_end (c : Dev nD) : oR2 c 31 = 0 := by unfold oR2; rw [Finset.Ico_self, Finset.sum_empty]

def L (g : GSem nD τ sig) : Finset Unit := if g.1.2 = .tc then {()} else ∅
/-- The barrier at level 1, the arrivals of the first exchange at 2, those of the second at 3, everything else at 0. -/
def lv (g : GSem nD τ sig) (_ : Unit) : ℕ := match g.2 with
  | .reg _ => 1
  | .dma q => if 35 ≤ q.val ∧ q.val < 67 then 2 else if 67 ≤ q.val ∧ q.val < 99 then 3 else 0

theorem L_of_ne (g : GSem nD τ sig) (h : g.1.2 ≠ .tc) : L g = ∅ := if_neg h
theorem L_tc (c : Dev nD) (sm : SemLoc sig) : L ((c : Thread nD τ), sm) = {()} := if_pos rfl

/-- Everything owed in `O` is owed to a core's cell above level `n`. -/
def Above (n : ℕ) (O : CellTallies nD τ sig Unit) : Prop := ∀ g u, 0 < O g u → g.1.2 = .tc ∧ n < lv g u

theorem above_zero (n : ℕ) : Above n 0 := fun g u h => absurd h (Nat.lt_irrefl 0)
theorem above_add {n : ℕ} {O O' : CellTallies nD τ sig Unit} (h : Above n O) (h' : Above n O') : Above n (O + O') := fun g u hg => by
  rw [Pi.add_apply, Finsupp.add_apply] at hg
  rcases Nat.eq_zero_or_pos (O g u) with h0 | h0
  · exact h' g u (by omega)
  · exact h g u h0
theorem above_sum {n : ℕ} (s : Finset ℕ) (f : ℕ → CellTallies nD τ sig Unit) (h : ∀ j ∈ s, Above n (f j)) : Above n (∑ j ∈ s, f j) := by
  induction s using Finset.induction_on with
  | empty => rw [Finset.sum_empty]; exact above_zero n
  | insert a s ha ih =>
    rw [Finset.sum_insert ha]
    exact above_add (h a (Finset.mem_insert_self _ _)) (ih fun j hj => h j (Finset.mem_insert_of_mem hj))
theorem above_tally {n : ℕ} (c : Dev nD) (sm : SemLoc sig) (k : ℕ) (h : n < lv ((c : Thread nD τ), sm) ()) : Above n (tallyAt ((c : Thread nD τ), sm) () k) := fun g u hg => by
  rw [tallyAt_apply] at hg
  by_cases e : g = ((c : Thread nD τ), sm) ∧ u = ()
  · rw [e.1]; exact ⟨rfl, h⟩
  · rw [if_neg e] at hg; exact absurd hg (Nat.lt_irrefl 0)

theorem lv_bar (c : Dev nD) : lv (barCell c) () = 1 := rfl
theorem lv_d (c : Dev nD) {n : ℕ} (h : n < 101) : lv (dcell c n) () = if 35 ≤ n ∧ n < 67 then 2 else if 67 ≤ n ∧ n < 99 then 3 else 0 := by
  show (if 35 ≤ (dsem n).val ∧ (dsem n).val < 67 then 2 else if 67 ≤ (dsem n).val ∧ (dsem n).val < 99 then 3 else 0) = _
  rw [dsem_val h]
theorem lv_r1 (c s : Dev nD) : lv (r1Cell c s) () = 2 := by
  have hs := s.isLt; change s.val < 32 at hs
  rw [lv_d c (by omega), if_pos (by omega)]
theorem lv_r2 (c s : Dev nD) : lv (r2Cell c s) () = 3 := by
  have hs := s.isLt; change s.val < 32 at hs
  rw [lv_d c (by omega), if_neg (by omega), if_pos (by omega)]
theorem lv_se (c : Dev nD) {j : ℕ} (h : j < 31) : lv (seCell c j) () = 0 := by
  rw [lv_d c (by omega), if_neg (by omega), if_neg (by omega)]
theorem lv_kv (c : Dev nD) {i : ℕ} (h : i < 2) : lv (kvCell c i) () = 0 := by
  rw [lv_d c (by omega), if_neg (by omega), if_neg (by omega)]

theorem above_oR2 (c : Dev nD) (k : ℕ) : Above 2 (oR2 c k) := above_sum _ _ fun j _ => above_tally _ _ _ (by rw [lv_r2]; decide)
theorem above_oR1 (c : Dev nD) (k : ℕ) : Above 1 (oR1 c k) := above_sum _ _ fun j _ => above_tally _ _ _ (by rw [lv_r1]; decide)
theorem above_oBar (c : Dev nD) (k : ℕ) : Above 0 (oBar c k) := above_sum _ _ fun j _ => above_tally _ _ _ (by rw [lv_bar]; decide)
theorem above_mono {a b : ℕ} (h : a ≤ b) {O : CellTallies nD τ sig Unit} (hO : Above b O) : Above a O :=
  fun g u hg => ⟨(hO g u hg).1, Nat.lt_of_le_of_lt h (hO g u hg).2⟩
theorem above_O₀ (c : Dev nD) : Above 0 (O₀ c) :=
  above_add (above_add (above_mono (by decide) (above_oR2 c 0)) (above_mono (by decide) (above_oR1 c 0))) (above_oBar c 0)

/-- The levels of all cells, recorded. -/
def lvs : sProp 𝕄 := levAts L lv
omit [FloatOps F] in
instance lvs_persistent : BI.Persistent (lvs (F := F)) := by unfold lvs; infer_instance

/-- A device may wait on a cell of its own while everything it owes lies above the cell's level. -/
theorem mayWait (c : Dev nD) (sm : SemLoc sig) (n : ℕ) (O : CellTallies nD τ sig Unit) (hl : lv ((c : Thread nD τ), sm) () ≤ n) (hO : Above n O) :
    (lvs : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hl)
    (fun g u hg => (hO g u hg).2)

/-! ## The records every step uses -/

/-- A device's cells: its barrier, and its transfer semaphores from the fourth on. -/
abbrev Cx : Type := Option (Fin 97)
def csem : Cx → SemLoc sig
  | none => .reg barS
  | some i => .dma (dsem (4 + i.val))
abbrev kcell (ck : Dev nD × Cx) : GSem nD τ sig := ((ck.1 : Thread nD τ), csem ck.2)

variable (K : Dev nD × Cx → ℕ)

/-- Every cell's invariant, that every cell is at round 0 at least, and the levels. -/
def recs : sProp 𝕄 :=
  iprop((bigSep Finset.univ fun ck => cellInv ER (Rd m PV) (K ck) (kcell ck)) ∗ (bigSep Finset.univ fun ck => reached ER (kcell ck) 0) ∗ lvs)

instance recs_persistent : BI.Persistent (recs m PV K) := by unfold recs; infer_instance

theorem recs_inv (ck : Dev nD × Cx) : recs m PV K ⊢ cellInv ER (Rd m PV) (K ck) (kcell ck) := by
  unfold recs
  iintro ⟨H, -, -⟩
  ihave H := (Entails.of_eq (bigSep_univ_at _ ck)) $$ H
  icases H with ⟨H, -⟩
  iexact H
theorem recs_reached (ck : Dev nD × Cx) : recs m PV K ⊢ reached ER (kcell ck) 0 := by
  unfold recs
  iintro ⟨-, H, -⟩
  ihave H := (Entails.of_eq (bigSep_univ_at _ ck)) $$ H
  icases H with ⟨H, -⟩
  iexact H
theorem recs_lev : recs m PV K ⊢ lvs := by
  unfold recs
  iintro ⟨-, -, H⟩
  iexact H

theorem recs_may (c : Dev nD) (sm : SemLoc sig) (n : ℕ) (O : CellTallies nD τ sig Unit) (hl : lv ((c : Thread nD τ), sm) () ≤ n) (hO : Above n O) :
    recs m PV K ⊢ MayWait (c : Thread nD τ) sm () O := by
  unfold recs
  iintro ⟨-, -, H⟩
  iapply (mayWait c sm n O hl hO)
  iexact H

/-- The name of a transfer cell's invariant. -/
def kd (c : Dev nD) (n : ℕ) : ℕ := K (c, some ⟨(n - 4) % 97, Nat.mod_lt _ (by decide)⟩)
theorem kcell_d (c : Dev nD) {n : ℕ} (h : 4 ≤ n) (h' : n < 101) : kcell (c, some ⟨(n - 4) % 97, Nat.mod_lt _ (by decide)⟩) = dcell c n := by
  show ((c : Thread nD τ), SemLoc.dma (dsem (4 + (n - 4) % 97))) = _
  rw [show 4 + (n - 4) % 97 = n by omega]
theorem recs_inv_d (c : Dev nD) {n : ℕ} (h : 4 ≤ n) (h' : n < 101) : recs m PV K ⊢ cellInv ER (Rd m PV) (kd K c n) (dcell c n) := by
  have := recs_inv m PV K (c, some ⟨(n - 4) % 97, Nat.mod_lt _ (by decide)⟩)
  rw [kcell_d c h h'] at this; exact this
theorem recs_reached_d (c : Dev nD) {n : ℕ} (h : 4 ≤ n) (h' : n < 101) : recs m PV K ⊢ reached ER (dcell c n) 0 := by
  have := recs_reached m PV K (c, some ⟨(n - 4) % 97, Nat.mod_lt _ (by decide)⟩)
  rw [kcell_d c h h'] at this; exact this

/-- What a device owes, whatever it has waited for. -/
abbrev ow (c : Dev nD) (O : CellTallies nD τ sig Unit) : sProp 𝕄 := iprop(∃ W, owes (c : Thread nD τ) O W)

abbrev 𝒱₀ : Variants := Variants.none

/-- The weakest precondition of a program on device `c`. -/
abbrev WP (c : Dev nD) (p : Pr F) (Q : PUnit → sProp 𝕄) : sProp 𝕄 :=
  wp frame (wpE (defs₀ (F := F)) 𝒱₀ (c : Thread nD τ) none) Set.univ p Q

/-! ## Loops -/

/-- The state of a loop at index `k`: what is owed, what is kept for the rounds to come, what the rounds done left. -/
def lp (c : Dev nD) (O : ℕ → CellTallies nD τ sig Unit) (A B : ℕ → sProp 𝕄) (k : ℕ) : sProp 𝕄 :=
  iprop(ow c (O k) ∗ bigSep (Finset.Ico k 31) A ∗ bigSep (Finset.Ico 0 k) B)

/-- One round takes `A j` to `B j`; so the loop takes all of `A` to all of `B`. -/
theorem wp_run_from (c : Dev nD) (O : ℕ → CellTallies nD τ sig Unit) (A B : ℕ → sProp 𝕄) (f : Fin 31 → Pr F → Pr F) (Q : PUnit → sProp 𝕄) (k : Pr F)
    (hstep : ∀ (j : Fin 31) (k : Pr F), iprop(recs m PV K ∗ ow c (O j.val) ∗ A j.val) ⊢ iprop(((ow c (O (j.val + 1)) ∗ B j.val) -∗ WP c k Q) -∗ WP c (f j k) Q)) :
    ∀ n j, j + n = 31 → iprop(recs m PV K ∗ lp c O A B j) ⊢ iprop((lp c O A B 31 -∗ WP c k Q) -∗ WP c (run f j n k) Q) := by
  intro n
  induction n with
  | zero =>
    intro j hj
    obtain rfl : j = 31 := hj
    iintro ⟨-, H⟩ Hk
    iapply Hk; iexact H
  | succ n ih =>
    intro j hj
    have hlt : j < 31 := by omega
    have e : (⟨j % 31, Nat.mod_lt _ (by decide)⟩ : Fin 31) = ⟨j, hlt⟩ := Fin.ext (Nat.mod_eq_of_lt hlt)
    show _ ⊢ iprop(_ -∗ WP c (f ⟨j % 31, _⟩ (run f (j + 1) n k)) Q)
    rw [e]
    unfold lp
    rw [bigSep_Ico_succ_bot hlt A]
    iintro ⟨#HR, Ho, ⟨HA, HAs⟩, HBs⟩ Hk
    iapply (hstep ⟨j, hlt⟩ (run f (j + 1) n k)) $$ [Ho HA]
    · isplitr; · iexact HR
      isplitl [Ho] <;> iassumption
    iintro ⟨Ho, HB⟩
    iapply (ih (j + 1) (by omega)) $$ [Ho HAs HBs HB]
    · isplitr; · iexact HR
      unfold lp
      isplitl [Ho]; · iexact Ho
      isplitl [HAs]; · iexact HAs
      rw [bigSep_Ico_succ_top (Nat.zero_le j) B]
      isplitl [HB] <;> iassumption
    unfold lp
    iexact Hk

/-- A whole loop of 31 rounds. -/
theorem wp_run (c : Dev nD) (O : ℕ → CellTallies nD τ sig Unit) (A B : ℕ → sProp 𝕄) (f : Fin 31 → Pr F → Pr F) (Q : PUnit → sProp 𝕄) (k : Pr F)
    (hstep : ∀ (j : Fin 31) (k : Pr F), iprop(recs m PV K ∗ ow c (O j.val) ∗ A j.val) ⊢ iprop(((ow c (O (j.val + 1)) ∗ B j.val) -∗ WP c k Q) -∗ WP c (f j k) Q)) :
    iprop(recs m PV K ∗ ow c (O 0) ∗ bigSep (Finset.range 31) A) ⊢ iprop(((ow c (O 31) ∗ bigSep (Finset.range 31) B) -∗ WP c k Q) -∗ WP c (run f 0 31 k) Q) := by
  refine BIBase.Entails.trans ?_ ((wp_run_from m PV K c O A B f Q k hstep 31 0 rfl).trans ?_)
  · unfold lp
    rw [Finset.range_eq_Ico, Finset.Ico_self, bigSep_empty]
    iintro ⟨H1, H2, H3⟩
    isplitl [H1]; · iexact H1
    isplitl [H2]; · iexact H2
    isplitl [H3]; · iexact H3
    iempintro
  · unfold lp
    rw [Finset.range_eq_Ico, Finset.Ico_self, bigSep_empty]
    iintro H Hk
    iapply H
    iintro ⟨H1, -, H3⟩
    iapply Hk
    isplitl [H1] <;> iassumption

end Cert.KernelIdeal.Sync

end
-- ==== Proof.IdealOps.lean ====
/-
One lemma for each operation the body performs in its loops, and one for each loop.
-/
module

public import proofs.«01_k».proof.Proof.IdealSteps

@[expose] public section

noncomputable section

namespace Cert.KernelIdeal.Sync

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (PV : Dev nD → Blocks F) (K : Dev nD × Cx → ℕ)

/-! ## Waiting on a transfer semaphore -/

/-- A wait for a round of a transfer semaphore of the device's own brings what the round's raise hands over. -/
theorem wait_d (c : Dev nD) {n r : ℕ} (h4 : 4 ≤ n) (h101 : n < 101) (hon : dmaOn c n r) {w : TpuEff nD τ sig (Elt F) Λ₀ .tc PUnit} {k' : ℕ}
    (hw : ∀ Kt : PUnit → sProp 𝕄, wpE (defs₀ (F := F)) 𝒱₀ (c : Thread nD τ) none Set.univ w Kt = waitSpec (c : Thread nD τ) Set.univ (.dma (dsem n)) k' Kt)
    (hk : (Rd m PV).expect (dcell c n) r = k') (O : CellTallies nD τ sig Unit) (l : ℕ) (hl : lv (dcell c n) () ≤ l) (hO : Above l O)
    (k : Pr F) (Q : PUnit → sProp 𝕄) :
    iprop(recs m PV K ∗ ow c O ∗ cred (tallyAt (dcell c n) () k') ∗ atPos ER (dcell c n) r ∅ 0)
      ⊢ iprop(((ow c O ∗ atPos ER (dcell c n) (r + 1) ∅ 0 ∗ reached ER (dcell c n) (r + 1) ∗ dmaPay m PV c n r) -∗ WP c k Q) -∗ WP c (.op w fun _ => k) Q) := by
  iintro ⟨#HR, ⟨%W, Ho⟩, Hc, Ha⟩ Hk
  iapply (Rounds.wp_wait_rest_token 𝒱₀ ER (Rd m PV) (c : Thread nD τ) none (κ := kd K c n) hw (Set.mem_univ _) () (O := O) (W := W) (R := r) (m := 0) (T := ∅)
      (by rw [Nat.zero_add, hk])) $$ [Hc Ho Ha]
  · isplitr; · iapply (recs_inv_d m PV K c h4 h101); iexact HR
    isplitl [Hc]; · iexact Hc
    isplitl [Ho]; · iexact Ho
    isplitr; · iapply (recs_may m PV K c _ l O hl hO); iexact HR
    iexact Ha
  iintro ⟨Ho, Ha, Hr, Hpay⟩
  ihave Hp := (Entails.of_eq (rest_dma m PV c h101 hon)) $$ Hpay
  iapply Hk
  isplitl [Ho]; · iexists _; iexact Ho
  isplitl [Ha]; · iexact Ha
  isplitl [Hr] <;> iassumption

/-- The units a slot of each of the three buffers counts for. -/
theorem credit_pf (o h) : (slotM pfM o h).view.dmaCredit = N := rfl
theorem credit_ac (o h) : (slotM acM o h).view.dmaCredit = N := rfl
theorem credit_k : kM.view.dmaCredit = NK := rfl
theorem credit_v : vM.view.dmaCredit = NK := rfl
theorem credit_ga (o h) : (slotM gaM o h).view.dmaCredit = N := rfl

/-- The wait the program states for a transfer semaphore of the device's own, which names a source and a destination. -/
theorem wait_dma (c : Dev nD) {n r : ℕ} (h4 : 4 ≤ n) (h101 : n < 101) (hon : dmaOn c n r) (sm : DmaSem sig) (hsm : sm = dsem n)
    {sp sp' : Space} {s s' : Shape} {e e' : EltTy} {src : Memref sig .tc sp' s' e'} {dst : Memref sig .tc sp s e} {hsrc : src.view.WordExact} {hdst : dst.view.WordExact}
    (k' : ℕ) (hc : dst.view.dmaCredit = k')
    (hk : (Rd m PV).expect (dcell c n) r = k') (O : CellTallies nD τ sig Unit) (l : ℕ) (hl : lv (dcell c n) () ≤ l) (hO : Above l O)
    (k : Pr F) (Q : PUnit → sProp 𝕄) :
    iprop(recs m PV K ∗ ow c O ∗ cred (tallyAt (dcell c n) () k') ∗ atPos ER (dcell c n) r ∅ 0)
      ⊢ iprop(((ow c O ∗ atPos ER (dcell c n) (r + 1) ∅ 0 ∗ reached ER (dcell c n) (r + 1) ∗ dmaPay m PV c n r) -∗ WP c k Q)
        -∗ WP c (.op (.waitDma2 sm src dst hsrc hdst) fun _ => k) Q) := by
  subst hsm hc
  exact wait_d m PV K c h4 h101 hon (wpE_waitDma2_eq 𝒱₀ (c : Thread nD τ) none Set.univ) hk O l hl hO k Q

/-! ## The signals and the barrier -/

def sigA (c : Dev nD) (j : ℕ) : sProp 𝕄 := iprop(dutyTok ER (barCell (nx c j)) 0 (30 - j) ∗ barPay (nx c j) (30 - j))

theorem step_signal (c : Dev nD) (O : CellTallies nD τ sig Unit) (Q : PUnit → sProp 𝕄) (j : Fin 31) (k : Pr F) :
    iprop(recs m PV K ∗ ow c (O + oBar c j.val) ∗ sigA c j.val)
      ⊢ iprop(((ow c (O + oBar c (j.val + 1)) ∗ emp) -∗ WP c k Q) -∗ WP c (signal c j k) Q) := by
  unfold signal sigA
  rw [sigDev_eq]
  have hj := j.isLt
  iintro ⟨#HR, ⟨%W, Ho⟩, Ht, Hp⟩ Hk
  iapply (Rounds.wp_signal 𝒱₀ ER (Rd m PV) (c : Thread nD τ) none (dst := (nx c j.val : Thread nD τ)) (κ := K (nx c j.val, none))
      (d := 30 - j.val) (k' := 1) (by rw [duties_bar]; exact Finset.mem_range.mpr (by omega)) (amount_bar m PV (nx c j.val) _) () (O₀ := O + oBar c j.val) (O + oBar c (j.val + 1))
      (by rw [oBar_step c hj, add_assoc])) $$ [Ho Ht Hp]
  · isplitr; · iapply (recs_inv m PV K (nx c j.val, none)); iexact HR
    isplitl [Ho]; · iexact Ho
    isplitl [Ht]; · iexact Ht
    isplitl [Hp]; · rw [payload_bar]; iexact Hp
    iapply (recs_reached m PV K (nx c j.val, none)); iexact HR
  iintro Ho
  iapply Hk
  isplitl [Ho]; · iexists _; iexact Ho
  iempintro

/-- What the barrier brings: from every peer its slots for this device. -/
def barGot (c : Dev nD) (j : ℕ) : sProp 𝕄 := iprop((∃ f, acS (nx c j) c fullShare f) ∗ (∃ f, gaS (nx c j) c fullShare f))

theorem step_barrier (c : Dev nD) (O : CellTallies nD τ sig Unit) (hO : Above 1 O) (Q : PUnit → sProp 𝕄) (k : Pr F) :
    iprop(recs m PV K ∗ ow c O ∗ cred (tallyAt (barCell c) () 31) ∗ atPos ER (barCell c) 0 ∅ 0)
      ⊢ iprop(((ow c O ∗ atPos ER (barCell c) 1 ∅ 0 ∗ bigSep (Finset.range 31) (barGot c)) -∗ WP c k Q) -∗ WP c (barrier k) Q) := by
  unfold barrier
  iintro ⟨#HR, ⟨%W, Ho⟩, Hc, Ha⟩ Hk
  iapply (Rounds.wp_wait_rest_token 𝒱₀ ER (Rd m PV) (c : Thread nD τ) none (κ := K (c, none)) (k' := 31)
      (wpE_semWait_eq 𝒱₀ (c : Thread nD τ) none Set.univ) (Set.mem_univ _) () (O := O) (W := W) (R := 0) (m := 0) (T := ∅)
      (by rw [expect_bar])) $$ [Hc Ho Ha]
  · isplitr; · iapply (recs_inv m PV K (c, none)); iexact HR
    isplitl [Hc]; · iexact Hc
    isplitl [Ho]; · iexact Ho
    isplitr; · iapply (recs_may m PV K c _ 1 O (by rw [lv_bar]) hO); iexact HR
    iexact Ha
  iintro ⟨Ho, Ha, -, Hpay⟩
  ihave Hp := (Entails.of_eq (rest_bar m PV c)) $$ Hpay
  iapply Hk
  isplitl [Ho]; · iexists _; iexact Ho
  isplitl [Ha]; · iexact Ha
  iexact Hp

/-! ## The first exchange -/

def snd1A (c : Dev nD) (j : ℕ) : sProp 𝕄 :=
  iprop(pfS c (nx c j) fullShare (PV c) ∗ (∃ f, acS (nx c j) c fullShare f) ∗ dutyTok ER (seCell c j) 0 0 ∗ dutyTok ER (r1Cell (nx c j) c) 0 0)
def sndB (c : Dev nD) (j : ℕ) : sProp 𝕄 := cred (tallyAt (seCell c j) () N)

/-- The transfer of a block to a peer, its slots and its semaphores given by what they come to. -/
theorem xfer1 (c n : Dev nD) (j : ℕ) (hj : j < 31) (hn : n = nx c j) (o o' : Fin 3 → ℕ) (h h') (ho : o = so (nx c j)) (ho' : o' = so c)
    (sS sR : DmaSem sig) (hS : sS = dsem (4 + j)) (hR : sR = dsem (35 + c.val))
    {hw : (slotM pfM o h).view.WordExact} {hw' : (slotM acM o' h').view.WordExact}
    {hsc : (slotM acM o' h' : Memref sig (Dev.tc n : Thread nD τ).2.kind .vmem S16x256 .bf16).view.ref.isScScratch = false}
    {ht : DmaTarget.Typed .vmem (.dma sR) (.remote (Dev.tc n : Thread nD τ) (slotM acM o' h' : Memref sig .tc .vmem S16x256 .bf16) (.dma sS) hsc)}
    (O : CellTallies nD τ sig Unit) (Q : PUnit → sProp 𝕄) (k : Pr F) :
    iprop(recs m PV K ∗ ow c (O + oR1 c j) ∗ snd1A PV c j)
      ⊢ iprop(((ow c (O + oR1 c (j + 1)) ∗ sndB c j) -∗ WP c k Q)
        -∗ WP c (.op (.enqueueDma (slotM pfM o h) (.remote (Dev.tc n) (slotM acM o' h') (.dma sS) hsc) (.dma sR) hw hw' ht) fun _ => k) Q) := by
  subst hn hS hR ho ho'
  have hne := nx_ne c hj
  have hc := c.isLt; change c.val < 32 at hc
  unfold snd1A
  iintro ⟨#HR, ⟨%W, Ho⟩, Hs, ⟨%fd, Hd⟩, Ht, Ht'⟩ Hk
  iapply (Rounds.wp_send_pointsTo 𝒱₀ ER (Rd m PV) (c : Thread nD τ) none (c' := (nx c j : Thread nD τ)) (κ₁ := kd K c (4 + j)) (κ₂ := kd K (nx c j) (35 + c.val))
    (src := slotM pfM (so (nx c j)) h) (dst := slotM acM (so c) h') (q := fullShare) (fs := PV c)
    (r₁ := 0) (r₂ := 0) (d₁ := 0) (d₂ := 0) (fd := fd)
    (by rw [duties_on m PV c (by omega) (on_se c hj (by decide))]; exact Finset.mem_singleton_self _)
    (by rw [duties_on m PV _ (by omega) (on_r1 (nx c j) (Ne.symm hne))]; exact Finset.mem_singleton_self _)
    () () N rfl (amount_lo m PV c (by omega) _ _) (amount_lo m PV _ (by omega) _ _) (O₀ := O + oR1 c j) (O + oR1 c (j + 1)) (by rw [oR1_step c hj, add_assoc]) (W := W)
    (by rw [payload_dma m PV c (by omega), pay_se0 m PV c hj, pf_set]; unfold pfS; exact BI.Entails.refl _)
    (by rw [payload_dma m PV _ (by omega), pay_r1 m PV, ac_set]; unfold acS
        exact Entails.of_eq (pointsTo_congr (landed_ac PV c (nx c j) h' h fd)))) $$ [Hs Hd Ho Ht Ht']
  · isplitr; · iapply (recs_inv_d m PV K c (n := 4 + j) (by omega) (by omega)); iexact HR
    isplitr; · iapply (recs_inv_d m PV K (nx c j) (n := 35 + c.val) (by omega) (by omega)); iexact HR
    isplitl [Hs]; · rw [pf_set]; unfold pfS; iexact Hs
    isplitl [Hd]; · rw [ac_set]; unfold acS; iexact Hd
    isplitl [Ho]; · iexact Ho
    isplitl [Ht]; · iexact Ht
    isplitr; · iapply (recs_reached_d m PV K c (n := 4 + j) (by omega) (by omega)); iexact HR
    isplitl [Ht']; · iexact Ht'
    iapply (recs_reached_d m PV K (nx c j) (n := 35 + c.val) (by omega) (by omega)); iexact HR
  iintro ⟨Hc, Ho⟩
  iapply Hk
  isplitl [Ho]; · iexists _; iexact Ho
  unfold sndB; iexact Hc

theorem off2 (c : Dev nD) : k0_off2 c = ![c.val] := k0_off2_eq c
theorem off3 (c : Dev nD) : k0_off3 c = so c := k0_off3_eq c
theorem off4 (c : Dev nD) (j : Fin 31) : k0_off4 c (BitVec.ofNat 32 (1 + j.val)) = so (nx c j.val) := by
  rw [k0_off4_eq]; show ![_, 0, 0] = ![(c.val + j.val + 1) % 32, 0, 0]; rfl
theorem off6 (c : Dev nD) (j : Fin 31) : k0_off6 c (BitVec.ofNat 32 (1 + j.val)) = ![(pv c j.val).val] := by
  rw [k0_off6_eq]; rfl
theorem off7 (c : Dev nD) (j : Fin 31) : k0_off7 c (BitVec.ofNat 32 (1 + j.val)) = so (pv c j.val) := by
  rw [k0_off7_eq]; rfl

theorem step_send1 (c : Dev nD) (O : CellTallies nD τ sig Unit) (Q : PUnit → sProp 𝕄) (j : Fin 31) (k : Pr F) :
    iprop(recs m PV K ∗ ow c (O + oR1 c j.val) ∗ snd1A PV c j.val)
      ⊢ iprop(((ow c (O + oR1 c (j.val + 1)) ∗ sndB c j.val) -∗ WP c k Q) -∗ WP c (send1 c j k) Q) :=
  xfer1 m PV K c (sendDev1 c j) j.val j.isLt (sendDev1_eq c j) _ _ _ _ (off4 c j) (off3 c) _ _
    (se_sem _ j.val j.isLt rfl _) (r1_sem _ c (off2 c) _) O Q k

def w1A (c : Dev nD) (j : ℕ) : sProp 𝕄 := iprop(cred (tallyAt (r1Cell c (pv c j)) () N) ∗ atPos ER (r1Cell c (pv c j)) 0 ∅ 0)
def w1B (c : Dev nD) (j : ℕ) : sProp 𝕄 := iprop(atPos ER (r1Cell c (pv c j)) 1 ∅ 0 ∗ acS c (pv c j) fullShare (accV PV c))

/-- A wait for an arrival of the first exchange, over whichever views it is counted. -/
theorem step_wait1 (c : Dev nD) (Q : PUnit → sProp 𝕄) (j : Fin 31) (k : Pr F) :
    iprop(recs m PV K ∗ ow c (oR2 c 0) ∗ w1A c j.val) ⊢ iprop(((ow c (oR2 c 0) ∗ w1B PV c j.val) -∗ WP c k Q) -∗ WP c (wait1 c j k) Q) := by
  have hs : w1S c j = dsem (35 + (pv c j.val).val) := r1_sem _ _ (off6 c j) _
  have hne : pv c j.val ≠ c := pv_ne c j.isLt
  have hb := (pv c j.val).isLt; change (pv c j.val).val < 32 at hb
  unfold wait1 w1A w1B
  iintro ⟨#HR, Ho, Hc, Ha⟩ Hk
  iapply (wait_dma m PV K c (n := 35 + (pv c j.val).val) (r := 0) (by omega) (by omega) (on_r1 c hne) _ hs N (credit_ac _ _)
    (expect_lo m PV c (by omega) (on_r1 c hne)) (oR2 c 0) 2 (by rw [lv_r1]) (above_oR2 c 0) k Q) $$ [Ho Hc Ha]
  · isplitr; · iexact HR
    isplitl [Ho]; · iexact Ho
    isplitl [Hc] <;> iassumption
  iintro ⟨Ho, Ha, -, Hp⟩
  iapply Hk
  isplitl [Ho]; · iexact Ho
  isplitl [Ha]; · iexact Ha
  ihave Hp := (Entails.of_eq (pay_r1 m PV c (pv c j.val))) $$ Hp
  iexact Hp

def d1A (c : Dev nD) (j : ℕ) : sProp 𝕄 := iprop(cred (tallyAt (seCell c j) () N) ∗ atPos ER (seCell c j) 0 ∅ 0)
def d1B (c : Dev nD) (j : ℕ) : sProp 𝕄 := iprop(atPos ER (seCell c j) 1 ∅ 0 ∗ reached ER (seCell c j) 1 ∗ pfS c (nx c j) fullShare (PV c))

theorem step_done1 (c : Dev nD) (Q : PUnit → sProp 𝕄) (j : Fin 31) (k : Pr F) :
    iprop(recs m PV K ∗ ow c (oR2 c 0) ∗ d1A c j.val) ⊢ iprop(((ow c (oR2 c 0) ∗ d1B PV c j.val) -∗ WP c k Q) -∗ WP c (done1 c j k) Q) := by
  have hs : seS j = dsem (4 + j.val) := se_sem _ _ j.isLt rfl _
  have hj := j.isLt
  unfold done1 d1A d1B
  iintro ⟨#HR, Ho, Hc, Ha⟩ Hk
  iapply (wait_dma m PV K c (n := 4 + j.val) (r := 0) (by omega) (by omega) (on_se c hj (by decide)) _ hs N (credit_pf _ _)
    (expect_lo m PV c (by omega) (on_se c hj (by decide))) (oR2 c 0) 2 (by rw [lv_se c hj]; decide) (above_oR2 c 0) k Q) $$ [Ho Hc Ha]
  · isplitr; · iexact HR
    isplitl [Ho]; · iexact Ho
    isplitl [Hc] <;> iassumption
  iintro ⟨Ho, Ha, Hr, Hp⟩
  iapply Hk
  isplitl [Ho]; · iexact Ho
  isplitl [Ha]; · iexact Ha
  isplitl [Hr]; · iexact Hr
  ihave Hp := (Entails.of_eq (pay_se0 m PV c hj)) $$ Hp
  iexact Hp

/-! ## The second exchange -/

def snd2A (c : Dev nD) (j : ℕ) : sProp 𝕄 :=
  iprop(gaS c c (shr j) (gathV PV) ∗ (∃ f, gaS (nx c j) c fullShare f) ∗ dutyTok ER (seCell c j) 1 0 ∗ reached ER (seCell c j) 1 ∗ dutyTok ER (r2Cell (nx c j) c) 0 0)

/-- The transfer of the summed block to a peer. -/
theorem xfer2 (c n : Dev nD) (j : ℕ) (hj : j < 31) (hn : n = nx c j) (o : Fin 3 → ℕ) (h h') (ho : o = so c)
    (sS sR : DmaSem sig) (hS : sS = dsem (4 + j)) (hR : sR = dsem (67 + c.val))
    {hw : (slotM gaM o h).view.WordExact} {hw' : (slotM gaM o h').view.WordExact}
    {hsc : (slotM gaM o h' : Memref sig (Dev.tc n : Thread nD τ).2.kind .vmem S16x256 .bf16).view.ref.isScScratch = false}
    {ht : DmaTarget.Typed .vmem (.dma sR) (.remote (Dev.tc n : Thread nD τ) (slotM gaM o h' : Memref sig .tc .vmem S16x256 .bf16) (.dma sS) hsc)}
    (Q : PUnit → sProp 𝕄) (k : Pr F) :
    iprop(recs m PV K ∗ ow c (oR2 c j) ∗ snd2A PV c j)
      ⊢ iprop(((ow c (oR2 c (j + 1)) ∗ sndB c j) -∗ WP c k Q)
        -∗ WP c (.op (.enqueueDma (slotM gaM o h) (.remote (Dev.tc n) (slotM gaM o h') (.dma sS) hsc) (.dma sR) hw hw' ht) fun _ => k) Q) := by
  subst hn hS hR ho
  have hne := nx_ne c hj
  have hc := c.isLt; change c.val < 32 at hc
  unfold snd2A
  iintro ⟨#HR, ⟨%W, Ho⟩, Hs, ⟨%fd, Hd⟩, Ht, Hr, Ht'⟩ Hk
  iapply (Rounds.wp_send_pointsTo 𝒱₀ ER (Rd m PV) (c : Thread nD τ) none (c' := (nx c j : Thread nD τ)) (κ₁ := kd K c (4 + j)) (κ₂ := kd K (nx c j) (67 + c.val))
    (src := slotM gaM (so c) h) (dst := slotM gaM (so c) h') (q := shr j) (fs := gathV PV)
    (r₁ := 1) (r₂ := 0) (d₁ := 0) (d₂ := 0) (fd := fd)
    (by rw [duties_on m PV c (by omega) (on_se c hj (by decide))]; exact Finset.mem_singleton_self _)
    (by rw [duties_on m PV _ (by omega) (on_r2 (nx c j) (Ne.symm hne))]; exact Finset.mem_singleton_self _)
    () () N rfl (amount_lo m PV c (by omega) _ _) (amount_lo m PV _ (by omega) _ _) (O₀ := oR2 c j) (oR2 c (j + 1)) (oR2_step c hj) (W := W)
    (by rw [payload_dma m PV c (by omega), pay_se1 m PV c hj, ga_set]; unfold gaS; exact BI.Entails.refl _)
    (by rw [payload_dma m PV _ (by omega), pay_r2 m PV, ga_set]; unfold gaS
        exact Entails.of_eq (pointsTo_congr (landed_ga c h' h fd (gathV PV))))) $$ [Hs Hd Ho Ht Hr Ht']
  · isplitr; · iapply (recs_inv_d m PV K c (n := 4 + j) (by omega) (by omega)); iexact HR
    isplitr; · iapply (recs_inv_d m PV K (nx c j) (n := 67 + c.val) (by omega) (by omega)); iexact HR
    isplitl [Hs]; · rw [ga_set]; unfold gaS; iexact Hs
    isplitl [Hd]; · rw [ga_set]; unfold gaS; iexact Hd
    isplitl [Ho]; · iexact Ho
    isplitl [Ht]; · iexact Ht
    isplitl [Hr]; · iexact Hr
    isplitl [Ht']; · iexact Ht'
    iapply (recs_reached_d m PV K (nx c j) (n := 67 + c.val) (by omega) (by omega)); iexact HR
  iintro ⟨Hc, Ho⟩
  iapply Hk
  isplitl [Ho]; · iexists _; iexact Ho
  unfold sndB; iexact Hc

theorem step_send2 (c : Dev nD) (Q : PUnit → sProp 𝕄) (j : Fin 31) (k : Pr F) :
    iprop(recs m PV K ∗ ow c (oR2 c j.val) ∗ snd2A PV c j.val)
      ⊢ iprop(((ow c (oR2 c (j.val + 1)) ∗ sndB c j.val) -∗ WP c k Q) -∗ WP c (send2 c j k) Q) :=
  xfer2 m PV K c (sendDev2 c j) j.val j.isLt (sendDev2_eq c j) _ _ _ (off3 c) _ _
    (se_sem _ j.val j.isLt rfl _) (r2_sem _ c (off2 c) _) Q k

def w2A (c : Dev nD) (j : ℕ) : sProp 𝕄 := iprop(cred (tallyAt (r2Cell c (pv c j)) () N) ∗ atPos ER (r2Cell c (pv c j)) 0 ∅ 0)
def w2B (c : Dev nD) (j : ℕ) : sProp 𝕄 := iprop(atPos ER (r2Cell c (pv c j)) 1 ∅ 0 ∗ gaS c (pv c j) fullShare (gathV PV))

/-- A wait for an arrival of the second exchange. -/
theorem step_wait2 (c : Dev nD) (Q : PUnit → sProp 𝕄) (j : Fin 31) (k : Pr F) :
    iprop(recs m PV K ∗ ow c 0 ∗ w2A c j.val) ⊢ iprop(((ow c 0 ∗ w2B PV c j.val) -∗ WP c k Q) -∗ WP c (wait2 c j k) Q) := by
  have hs : w2S c j = dsem (67 + (pv c j.val).val) := r2_sem _ _ (off6 c j) _
  have hne : pv c j.val ≠ c := pv_ne c j.isLt
  have hb := (pv c j.val).isLt; change (pv c j.val).val < 32 at hb
  unfold wait2 w2A w2B
  iintro ⟨#HR, Ho, Hc, Ha⟩ Hk
  iapply (wait_dma m PV K c (n := 67 + (pv c j.val).val) (r := 0) (by omega) (by omega) (on_r2 c hne) _ hs N (credit_ga _ _)
    (expect_lo m PV c (by omega) (on_r2 c hne)) (0) 3 (by rw [lv_r2]) (above_zero 3) k Q) $$ [Ho Hc Ha]
  · isplitr; · iexact HR
    isplitl [Ho]; · iexact Ho
    isplitl [Hc] <;> iassumption
  iintro ⟨Ho, Ha, -, Hp⟩
  iapply Hk
  isplitl [Ho]; · iexact Ho
  isplitl [Ha]; · iexact Ha
  ihave Hp := (Entails.of_eq (pay_r2 m PV c (pv c j.val))) $$ Hp
  iexact Hp

def d2A (c : Dev nD) (j : ℕ) : sProp 𝕄 := iprop(cred (tallyAt (seCell c j) () N) ∗ atPos ER (seCell c j) 1 ∅ 0)
def d2B (c : Dev nD) (j : ℕ) : sProp 𝕄 := iprop(atPos ER (seCell c j) 2 ∅ 0 ∗ gaS c c (shr j) (gathV PV))

theorem step_done2 (c : Dev nD) (Q : PUnit → sProp 𝕄) (j : Fin 31) (k : Pr F) :
    iprop(recs m PV K ∗ ow c 0 ∗ d2A c j.val) ⊢ iprop(((ow c 0 ∗ d2B PV c j.val) -∗ WP c k Q) -∗ WP c (done2 c j k) Q) := by
  have hs : seS j = dsem (4 + j.val) := se_sem _ _ j.isLt rfl _
  have hj := j.isLt
  unfold done2 d2A d2B
  iintro ⟨#HR, Ho, Hc, Ha⟩ Hk
  iapply (wait_dma m PV K c (n := 4 + j.val) (r := 1) (by omega) (by omega) (on_se c hj (by decide)) _ hs N (credit_ga _ _)
    (expect_lo m PV c (by omega) (on_se c hj (by decide))) (0) 3 (by rw [lv_se c hj]; decide) (above_zero 3) k Q) $$ [Ho Hc Ha]
  · isplitr; · iexact HR
    isplitl [Ho]; · iexact Ho
    isplitl [Hc] <;> iassumption
  iintro ⟨Ho, Ha, -, Hp⟩
  iapply Hk
  isplitl [Ho]; · iexact Ho
  isplitl [Ha]; · iexact Ha
  ihave Hp := (Entails.of_eq (pay_se1 m PV c hj)) $$ Hp
  iexact Hp

/-! ## The copies of the keys and the values -/

theorem kS_eq : kS = dsem (99 + 0) := kv_sem _ 0 (by decide) rfl _
theorem vS_eq : vS = dsem (99 + 1) := kv_sem _ 1 (by decide) rfl _

/-- The copy into the buffer, its semaphore given by what it comes to. -/
theorem xferK (c : Dev nD) (sm : DmaSem sig) (hsm : sm = dsem (99 + 0)) {hw : (kslice c).view.WordExact} {hw' : (kM : Memref sig .tc _ _ _).view.WordExact}
    {ht : DmaTarget.Typed .hbm (.dma sm) (.here kM : DmaTarget nD τ sig ((0 : Dev nD) : Thread nD τ).2 .vmem S2x128x8x64 .f32)} (Q : PUnit → sProp 𝕄) (k : Pr F) :
    iprop(recs m PV K ∗ keP m c ∗ (∃ f, kP c f) ∗ dutyTok ER (kvCell c 0) 0 0)
      ⊢ iprop((cred (tallyAt (kvCell c 0) () NK) -∗ WP c k Q)
        -∗ WP c (.op (.enqueueDma (kslice c) (.here kM) (.dma sm) hw hw' ht) fun _ => k) Q) := by
  subst hsm
  iintro ⟨#HR, Hs, ⟨%fd, Hd⟩, Ht⟩ Hk
  iapply (Rounds.wp_copy_pointsTo 𝒱₀ ER (Rd m PV) (c : Thread nD τ) none (κ := kd K c 99) (src := kslice c) (dst := kM) (sem := .dma (dsem (99 + 0))) (q := fullShare)
    (fs := m ((c : Thread nD τ).loc main_arg2)) (fd := fd) (r := 0) (d := 0)
    (by rw [duties_on m PV c (by decide) (on_kv c (i := 0))]; exact Finset.mem_singleton_self _) () NK rfl (amount_hi m PV c (by decide) (by decide) _ _)
    (by rw [payload_dma m PV c (by decide), pay_k m PV c]; unfold kP keP kV
        rw [View.set_whole, show (kM.view.write (Elt F) fd ((kslice c).view.read (Elt F) (m ((c : Thread nD τ).loc main_arg2))) Finset.univ)
          = (kslice c).view.read (Elt F) (m ((c : Thread nD τ).loc main_arg2)) from View.write_whole_univ cc0_scratch3 _ _])) $$ [Hs Hd Ht]
  · isplitr; · iapply (recs_inv_d m PV K c (n := 99) (by decide) (by decide)); iexact HR
    isplitl [Hs]; · unfold keP; iexact Hs
    isplitl [Hd]; · unfold kP; rw [View.set_whole]; iexact Hd
    isplitl [Ht]; · iexact Ht
    iapply (recs_reached_d m PV K c (n := 99) (by decide) (by decide)); iexact HR
  iexact Hk

/-- The copy into the buffer, its semaphore given by what it comes to. -/
theorem xferV (c : Dev nD) (sm : DmaSem sig) (hsm : sm = dsem (99 + 1)) {hw : (vslice c).view.WordExact} {hw' : (vM : Memref sig .tc _ _ _).view.WordExact}
    {ht : DmaTarget.Typed .hbm (.dma sm) (.here vM : DmaTarget nD τ sig ((0 : Dev nD) : Thread nD τ).2 .vmem S2x128x8x64 .f32)} (Q : PUnit → sProp 𝕄) (k : Pr F) :
    iprop(recs m PV K ∗ veP m c ∗ (∃ f, vP c f) ∗ dutyTok ER (kvCell c 1) 0 0)
      ⊢ iprop((cred (tallyAt (kvCell c 1) () NK) -∗ WP c k Q)
        -∗ WP c (.op (.enqueueDma (vslice c) (.here vM) (.dma sm) hw hw' ht) fun _ => k) Q) := by
  subst hsm
  iintro ⟨#HR, Hs, ⟨%fd, Hd⟩, Ht⟩ Hk
  iapply (Rounds.wp_copy_pointsTo 𝒱₀ ER (Rd m PV) (c : Thread nD τ) none (κ := kd K c 100) (src := vslice c) (dst := vM) (sem := .dma (dsem (99 + 1))) (q := fullShare)
    (fs := m ((c : Thread nD τ).loc main_arg3)) (fd := fd) (r := 0) (d := 0)
    (by rw [duties_on m PV c (by decide) (on_kv c (i := 1))]; exact Finset.mem_singleton_self _) () NK rfl (amount_hi m PV c (by decide) (by decide) _ _)
    (by rw [payload_dma m PV c (by decide), pay_v m PV c]; unfold vP veP vV
        rw [View.set_whole, show (vM.view.write (Elt F) fd ((vslice c).view.read (Elt F) (m ((c : Thread nD τ).loc main_arg3))) Finset.univ)
          = (vslice c).view.read (Elt F) (m ((c : Thread nD τ).loc main_arg3)) from View.write_whole_univ cc0_scratch4 _ _])) $$ [Hs Hd Ht]
  · isplitr; · iapply (recs_inv_d m PV K c (n := 100) (by decide) (by decide)); iexact HR
    isplitl [Hs]; · unfold veP; iexact Hs
    isplitl [Hd]; · unfold vP; rw [View.set_whole]; iexact Hd
    isplitl [Ht]; · iexact Ht
    iapply (recs_reached_d m PV K c (n := 100) (by decide) (by decide)); iexact HR
  iexact Hk

theorem step_copyK (c : Dev nD) (Q : PUnit → sProp 𝕄) (k : Pr F) :
    iprop(recs m PV K ∗ keP m c ∗ (∃ f, kP c f) ∗ dutyTok ER (kvCell c 0) 0 0)
      ⊢ iprop((cred (tallyAt (kvCell c 0) () NK) -∗ WP c k Q) -∗ WP c (copyK c k) Q) :=
  xferK m PV K c kS kS_eq Q k

theorem step_waitK (c : Dev nD) (O : CellTallies nD τ sig Unit) (hO : Above 0 O) (Q : PUnit → sProp 𝕄) (k : Pr F) :
    iprop(recs m PV K ∗ ow c O ∗ cred (tallyAt (kvCell c 0) () NK) ∗ atPos ER (kvCell c 0) 0 ∅ 0)
      ⊢ iprop(((ow c O ∗ atPos ER (kvCell c 0) 1 ∅ 0 ∗ kP c (kV m c) ∗ keP m c) -∗ WP c k Q) -∗ WP c (waitK c k) Q) := by
  unfold waitK
  iintro H Hk
  iapply (wait_dma m PV K c (n := 99 + 0) (r := 0) (by decide) (by decide) (on_kv c) _ kS_eq NK credit_k
    (expect_hi m PV c (by decide) (by decide) (on_kv c)) O 0 (by rw [lv_kv c (by decide)]) hO k Q) $$ H
  iintro ⟨Ho, Ha, -, Hp⟩
  ihave Hp := (Entails.of_eq (pay_k m PV c)) $$ Hp
  iapply Hk
  isplitl [Ho]; · iexact Ho
  isplitl [Ha]; · iexact Ha
  iexact Hp

theorem step_copyV (c : Dev nD) (Q : PUnit → sProp 𝕄) (k : Pr F) :
    iprop(recs m PV K ∗ veP m c ∗ (∃ f, vP c f) ∗ dutyTok ER (kvCell c 1) 0 0)
      ⊢ iprop((cred (tallyAt (kvCell c 1) () NK) -∗ WP c k Q) -∗ WP c (copyV c k) Q) :=
  xferV m PV K c vS vS_eq Q k

theorem step_waitV (c : Dev nD) (O : CellTallies nD τ sig Unit) (hO : Above 0 O) (Q : PUnit → sProp 𝕄) (k : Pr F) :
    iprop(recs m PV K ∗ ow c O ∗ cred (tallyAt (kvCell c 1) () NK) ∗ atPos ER (kvCell c 1) 0 ∅ 0)
      ⊢ iprop(((ow c O ∗ atPos ER (kvCell c 1) 1 ∅ 0 ∗ vP c (vV m c) ∗ veP m c) -∗ WP c k Q) -∗ WP c (waitV c k) Q) := by
  unfold waitV
  iintro H Hk
  iapply (wait_dma m PV K c (n := 99 + 1) (r := 0) (by decide) (by decide) (on_kv c) _ vS_eq NK credit_v
    (expect_hi m PV c (by decide) (by decide) (on_kv c)) O 0 (by rw [lv_kv c (by decide)]) hO k Q) $$ H
  iintro ⟨Ho, Ha, -, Hp⟩
  ihave Hp := (Entails.of_eq (pay_v m PV c)) $$ Hp
  iapply Hk
  isplitl [Ho]; · iexact Ho
  isplitl [Ha]; · iexact Ha
  iexact Hp

/-! ## The loops -/

/-- The signals. -/
theorem loop_signal (c : Dev nD) (O : CellTallies nD τ sig Unit) (Q : PUnit → sProp 𝕄) (k : Pr F) :
    iprop(recs m PV K ∗ ow c (O + oBar c 0) ∗ bigSep (Finset.range 31) (sigA c))
      ⊢ iprop((ow c O -∗ WP c k Q) -∗ WP c (run (signal c) 0 31 k) Q) := by
  iintro H Hk
  iapply (wp_run m PV K c (fun j => O + oBar c j) (sigA c) (fun _ => iprop(emp)) (signal c) Q k (step_signal m PV K c O Q)) $$ H
  iintro ⟨Ho, -⟩
  iapply Hk
  rw [oBar_end, add_zero]; iexact Ho

/-- The sends of the first exchange. -/
theorem loop_send1 (c : Dev nD) (O : CellTallies nD τ sig Unit) (Q : PUnit → sProp 𝕄) (k : Pr F) :
    iprop(recs m PV K ∗ ow c (O + oR1 c 0) ∗ bigSep (Finset.range 31) (snd1A PV c))
      ⊢ iprop(((ow c O ∗ bigSep (Finset.range 31) (sndB c)) -∗ WP c k Q) -∗ WP c (run (send1 c) 0 31 k) Q) := by
  iintro H Hk
  iapply (wp_run m PV K c (fun j => O + oR1 c j) (snd1A PV c) (sndB c) (send1 c) Q k (step_send1 m PV K c O Q)) $$ H
  rw [oR1_end, add_zero]; iexact Hk

/-- The waits for the first exchange's arrivals, and for its sends. -/
theorem loop_wait1 (c : Dev nD) (Q : PUnit → sProp 𝕄) (k : Pr F) :
    iprop(recs m PV K ∗ ow c (oR2 c 0) ∗ bigSep (Finset.range 31) (w1A c))
      ⊢ iprop(((ow c (oR2 c 0) ∗ bigSep (Finset.range 31) (w1B PV c)) -∗ WP c k Q) -∗ WP c (run (wait1 c) 0 31 k) Q) :=
  wp_run m PV K c (fun _ => oR2 c 0) (w1A c) (w1B PV c) (wait1 c) Q k (step_wait1 m PV K c Q)
theorem loop_done1 (c : Dev nD) (Q : PUnit → sProp 𝕄) (k : Pr F) :
    iprop(recs m PV K ∗ ow c (oR2 c 0) ∗ bigSep (Finset.range 31) (d1A c))
      ⊢ iprop(((ow c (oR2 c 0) ∗ bigSep (Finset.range 31) (d1B PV c)) -∗ WP c k Q) -∗ WP c (run (done1 c) 0 31 k) Q) :=
  wp_run m PV K c (fun _ => oR2 c 0) (d1A c) (d1B PV c) (done1 c) Q k (step_done1 m PV K c Q)

/-- The sends of the second exchange. -/
theorem loop_send2 (c : Dev nD) (Q : PUnit → sProp 𝕄) (k : Pr F) :
    iprop(recs m PV K ∗ ow c (oR2 c 0) ∗ bigSep (Finset.range 31) (snd2A PV c))
      ⊢ iprop(((ow c 0 ∗ bigSep (Finset.range 31) (sndB c)) -∗ WP c k Q) -∗ WP c (run (send2 c) 0 31 k) Q) := by
  iintro H Hk
  iapply (wp_run m PV K c (fun j => oR2 c j) (snd2A PV c) (sndB c) (send2 c) Q k (step_send2 m PV K c Q)) $$ H
  rw [oR2_end]; iexact Hk

/-- The waits for the second exchange's arrivals, and for its sends. -/
theorem loop_wait2 (c : Dev nD) (Q : PUnit → sProp 𝕄) (k : Pr F) :
    iprop(recs m PV K ∗ ow c 0 ∗ bigSep (Finset.range 31) (w2A c))
      ⊢ iprop(((ow c 0 ∗ bigSep (Finset.range 31) (w2B PV c)) -∗ WP c k Q) -∗ WP c (run (wait2 c) 0 31 k) Q) :=
  wp_run m PV K c (fun _ => 0) (w2A c) (w2B PV c) (wait2 c) Q k (step_wait2 m PV K c Q)
theorem loop_done2 (c : Dev nD) (Q : PUnit → sProp 𝕄) (k : Pr F) :
    iprop(recs m PV K ∗ ow c 0 ∗ bigSep (Finset.range 31) (d2A c))
      ⊢ iprop(((ow c 0 ∗ bigSep (Finset.range 31) (d2B PV c)) -∗ WP c k Q) -∗ WP c (run (done2 c) 0 31 k) Q) :=
  wp_run m PV K c (fun _ => 0) (d2A c) (d2B PV c) (done2 c) Q k (step_done2 m PV K c Q)

end Cert.KernelIdeal.Sync

end
-- ==== Proof.IdealStretch.lean ====
/-
The stretches of the body that load, compute and store, and how whole buffers split into slots.
-/
module

public import proofs.«01_k».proof.Proof.IdealOps
public import Idealize.ShloMosaic.Lib.SparseCore.Launch
public import Idealize.ShloMosaic.Lib.Pipeline.Value

@[expose] public section

noncomputable section

namespace Cert.KernelIdeal.Sync

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (PV : Dev nD → Blocks F) (K : Dev nD × Cx → ℕ)

/-! ## One resource for each device, listed from a device's own -/

section Big
theorem big_nx (c : Dev nD) (Φ : Dev nD → sProp 𝕄) : bigSep Finset.univ Φ = iprop(Φ c ∗ bigSep (Finset.range 31) fun j => Φ (nx c j)) := by
  have hi : Set.InjOn (nx c) (Finset.range 31 : Set ℕ) := fun i hi j hj e =>
    nx_inj c (Finset.mem_range.mp (Finset.mem_coe.mp hi)) (Finset.mem_range.mp (Finset.mem_coe.mp hj)) e
  have hu : (Finset.univ : Finset (Dev nD)) = insert c ((Finset.range 31).image (nx c)) := by
    refine (Finset.eq_univ_iff_forall.mpr fun s => ?_).symm
    by_cases h : s = c
    · rw [h]; exact Finset.mem_insert_self _ _
    · obtain ⟨j, hj, e⟩ := exists_nx h
      exact Finset.mem_insert_of_mem (Finset.mem_image.mpr ⟨j, Finset.mem_range.mpr hj, e⟩)
  have hc : c ∉ (Finset.range 31).image (nx c) := fun h => by
    obtain ⟨j, hj, e⟩ := Finset.mem_image.mp h
    exact nx_ne c (Finset.mem_range.mp hj) e
  rw [hu, BI.bigSep_insert hc, SparseCore.bigSep_image_of_injOn hi]; rfl

theorem big_pv (c : Dev nD) (Φ : Dev nD → sProp 𝕄) : bigSep Finset.univ Φ = iprop(Φ c ∗ bigSep (Finset.range 31) fun j => Φ (pv c j)) := by
  have hi : Set.InjOn (pv c) (Finset.range 31 : Set ℕ) := fun i hi j hj e =>
    pv_inj c (Finset.mem_range.mp (Finset.mem_coe.mp hi)) (Finset.mem_range.mp (Finset.mem_coe.mp hj)) e
  have hu : (Finset.univ : Finset (Dev nD)) = insert c ((Finset.range 31).image (pv c)) := by
    refine (Finset.eq_univ_iff_forall.mpr fun s => ?_).symm
    by_cases h : s = c
    · rw [h]; exact Finset.mem_insert_self _ _
    · obtain ⟨j, hj, e⟩ := exists_pv h
      exact Finset.mem_insert_of_mem (Finset.mem_image.mpr ⟨j, Finset.mem_range.mpr hj, e⟩)
  have hc : c ∉ (Finset.range 31).image (pv c) := fun h => by
    obtain ⟨j, hj, e⟩ := Finset.mem_image.mp h
    exact pv_ne c (Finset.mem_range.mp hj) e
  rw [hu, BI.bigSep_insert hc, SparseCore.bigSep_image_of_injOn hi]; rfl

theorem big_fin31 (Φ : Fin 31 → sProp 𝕄) : bigSep Finset.univ Φ = bigSep (Finset.range 31) fun j => Φ ⟨j % 31, Nat.mod_lt _ (by decide)⟩ := by
  have hi : Set.InjOn (fun j : ℕ => (⟨j % 31, Nat.mod_lt _ (by decide)⟩ : Fin 31)) (Finset.range 31 : Set ℕ) := fun i hi j hj e => by
    have h1 := Finset.mem_range.mp (Finset.mem_coe.mp hi)
    have h2 := Finset.mem_range.mp (Finset.mem_coe.mp hj)
    have h3 : i % 31 = j % 31 := congrArg Fin.val e
    omega
  have hu : (Finset.univ : Finset (Fin 31)) = (Finset.range 31).image (fun j : ℕ => (⟨j % 31, Nat.mod_lt _ (by decide)⟩ : Fin 31)) := by
    refine (Finset.eq_univ_iff_forall.mpr fun s => Finset.mem_image.mpr ⟨s.val, Finset.mem_range.mpr s.isLt, Fin.ext ?_⟩).symm
    exact Nat.mod_eq_of_lt s.isLt
  rw [hu, SparseCore.bigSep_image_of_injOn hi]
end Big

/-! ## Whole buffers and their slots -/

theorem pf_slots (c : Dev nD) (q : PosShare TreeShare) (f : Blocks F) :
    (((c : Thread nD τ).loc cc0_scratch0) ↦{q} f : sProp 𝕄) = bigSep Finset.univ fun s => pfS c s q f := by
  rw [← slots_cover]
  exact pointsTo_biUnion (ℓ := (c : Thread nD τ).loc cc0_scratch0) (q := q) (f := f) Finset.univ slotSet fun s _ t _ h => slots_disjoint h
theorem ac_slots (c : Dev nD) (q : PosShare TreeShare) (f : Blocks F) :
    (((c : Thread nD τ).loc cc0_scratch1) ↦{q} f : sProp 𝕄) = bigSep Finset.univ fun s => acS c s q f := by
  rw [← slots_cover]
  exact pointsTo_biUnion (ℓ := (c : Thread nD τ).loc cc0_scratch1) (q := q) (f := f) Finset.univ slotSet fun s _ t _ h => slots_disjoint h
theorem ga_slots (c : Dev nD) (q : PosShare TreeShare) (f : Blocks F) :
    (((c : Thread nD τ).loc cc0_scratch2) ↦{q} f : sProp 𝕄) = bigSep Finset.univ fun s => gaS c s q f := by
  rw [← slots_cover]
  exact pointsTo_biUnion (ℓ := (c : Thread nD τ).loc cc0_scratch2) (q := q) (f := f) Finset.univ slotSet fun s _ t _ h => slots_disjoint h

/-- A slot of the gathering buffer held in full is held in two halves. -/
theorem ga_halves (c s : Dev nD) (f : Blocks F) : gaS c s fullShare f = iprop(gaS c s fullShare.left f ∗ gaS c s fullShare.right f) := by
  unfold gaS
  exact BI.Entails.antisymm (pointsTo_share (PosShare.mem_left_op_right fullShare)).1 (pointsTo_share (PosShare.mem_left_op_right fullShare)).2
/-- The right half is 31 pieces, one for each send. -/
theorem ga_pieces (c s : Dev nD) (f : Blocks F) : gaS c s fullShare.right f = bigSep (Finset.range 31) fun j => gaS c s (shr j) f := by
  unfold gaS shr
  exact (pointsTo_pieces (ℓ := (c : Thread nD τ).loc cc0_scratch2) (slotSet s) f 30 fullShare.right).trans (big_fin31 _)

/-! ## What the loads read and the stores write -/

theorem hz3 : (![0, 0, 0] : Fin 3 → Nat) = fun _ => 0 := funext fun a => by fin_cases a <;> rfl
theorem hz2 : (![0, 0] : Fin 2 → Nat) = fun _ => 0 := funext fun a => by fin_cases a <;> rfl

/-- Reading a whole buffer gives what it holds; storing to it all leaves what is stored. -/
theorem read_x (h) (f : Vec F S2x128x512 .f32) : xM.view.readAt (Elt F) (Rect.unit (s := S2x128x512) ![0, 0, 0] S2x128x512.size h).toLoadRect f = f := Memref.readAt_unit_zero (Elt F) cc0_stg0_0 hz3 h f
theorem read_wq (h) (f : Vec F S512x256 .f32) : wqM.view.readAt (Elt F) (Rect.unit (s := S512x256) ![0, 0] S512x256.size h).toLoadRect f = f := Memref.readAt_unit_zero (Elt F) cc0_stg1_0 hz2 h f
theorem read_wo (h) (f : Vec F S256x512 .f32) : woM.view.readAt (Elt F) (Rect.unit (s := S256x512) ![0, 0] S256x512.size h).toLoadRect f = f := Memref.readAt_unit_zero (Elt F) cc0_stg2_0 hz2 h f
theorem read_ac (h) (f : Blocks F) : acM.view.readAt (Elt F) (Rect.unit (s := S32x16x256) ![0, 0, 0] S32x16x256.size h).toLoadRect f = f := Memref.readAt_unit_zero (Elt F) cc0_scratch1 hz3 h f
theorem read_ga (h) (f : Blocks F) : gaM.view.readAt (Elt F) (Rect.unit (s := S32x16x256) ![0, 0, 0] S32x16x256.size h).toLoadRect f = f := Memref.readAt_unit_zero (Elt F) cc0_scratch2 hz3 h f
theorem write_pf (h) (f w : Blocks F) : (pfM.access (Rect.unit (s := S32x16x256) ![0, 0, 0] S32x16x256.size h)).write (Elt F) f w Finset.univ = w := Memref.write_access_unit_zero_univ (Elt F) cc0_scratch0 hz3 h f w
theorem write_o (h) (f w : Vec F S2x128x512 .f32) : (oM.access (Rect.unit (s := S2x128x512) ![0, 0, 0] S2x128x512.size h)).write (Elt F) f w Finset.univ = w := Memref.write_access_unit_zero_univ (Elt F) cc0_stg3_0 hz3 h f w

theorem off5 : ∀ c : Dev nD, k0_off5 c = so c := by decide +kernel

/-- What device `c` computes from its staged blocks and the keys and values it copied. -/
def partV (c : Dev nD) (x : Vec F S2x128x512 .f32) (wq : Vec F S512x256 .f32) (k v : Vec F S2x128x8x64 .f32) (wo : Vec F S256x512 .f32) : Blocks F :=
  partOf (bit c) x wq (kM.view.readAt (Elt F) kvR0.toLoadRect k) (vM.view.readAt (Elt F) kvR0.toLoadRect v)
    (kM.view.readAt (Elt F) kvR1.toLoadRect k) (vM.view.readAt (Elt F) kvR1.toLoadRect v) wo

/-- Computing the partial results: the waits for the two copies, the loads, and the store. -/
theorem step_compute (c : Dev nD) (O : CellTallies nD τ sig Unit) (hO : Above 0 O) (x : Vec F S2x128x512 .f32) (wq : Vec F S512x256 .f32) (wo : Vec F S256x512 .f32)
    (Q : PUnit → sProp 𝕄) (k : Pr F) :
    iprop(recs m PV K ∗ ow c O ∗ (cred (tallyAt (kvCell c 0) () NK) ∗ cred (tallyAt (kvCell c 1) () NK)) ∗ (atPos ER (kvCell c 0) 0 ∅ 0 ∗ atPos ER (kvCell c 1) 0 ∅ 0)
        ∗ (((c : Thread nD τ).loc cc0_stg0_0) ↦{fullShare} x) ∗ (((c : Thread nD τ).loc cc0_stg1_0) ↦{fullShare} wq) ∗ (((c : Thread nD τ).loc cc0_stg2_0) ↦{fullShare} wo)
        ∗ (∃ f, ((c : Thread nD τ).loc cc0_scratch0) ↦{fullShare} f))
      ⊢ iprop(((ow c O ∗ (atPos ER (kvCell c 0) 1 ∅ 0 ∗ atPos ER (kvCell c 1) 1 ∅ 0) ∗ (kP c (kV m c) ∗ keP m c) ∗ (vP c (vV m c) ∗ veP m c)
        ∗ (((c : Thread nD τ).loc cc0_stg0_0) ↦{fullShare} x) ∗ (((c : Thread nD τ).loc cc0_stg1_0) ↦{fullShare} wq) ∗ (((c : Thread nD τ).loc cc0_stg2_0) ↦{fullShare} wo)
        ∗ (((c : Thread nD τ).loc cc0_scratch0) ↦{fullShare} (partV c x wq (kV m c) (vV m c) wo))) -∗ WP c k Q) -∗ WP c (compute c k) Q) := by
  unfold compute
  iintro ⟨#HR, Ho, ⟨Hc0, Hc1⟩, ⟨Ha0, Ha1⟩, Hx, Hwq, Hwo, ⟨%f, Hpf⟩⟩ Hk
  iapply (wp_load 𝒱₀ (c : Thread nD τ) none Set.univ (m := xM) (q := fullShare) (f := x) (Finset.subset_univ _)) $$ Hx; iintro Hx
  rw [read_x]
  iapply (wp_load 𝒱₀ (c : Thread nD τ) none Set.univ (m := wqM) (q := fullShare) (f := wq) (Finset.subset_univ _)) $$ Hwq; iintro Hwq
  rw [read_wq]
  iapply (step_waitK m PV K c O hO Q _) $$ [Ho Hc0 Ha0]
  · isplitr; · iexact HR
    isplitl [Ho]; · iexact Ho
    isplitl [Hc0] <;> iassumption
  iintro ⟨Ho, Ha0, Hkp, Hke⟩
  iapply (step_waitV m PV K c O hO Q _) $$ [Ho Hc1 Ha1]
  · isplitr; · iexact HR
    isplitl [Ho]; · iexact Ho
    isplitl [Hc1] <;> iassumption
  iintro ⟨Ho, Ha1, Hvp, Hve⟩
  unfold kP vP
  iapply (wp_load 𝒱₀ (c : Thread nD τ) none Set.univ (m := kM) (q := fullShare) (f := kV m c) (Finset.subset_univ _)) $$ Hkp; iintro Hkp
  iapply (wp_load 𝒱₀ (c : Thread nD τ) none Set.univ (m := vM) (q := fullShare) (f := vV m c) (Finset.subset_univ _)) $$ Hvp; iintro Hvp
  iapply (wp_load 𝒱₀ (c : Thread nD τ) none Set.univ (m := kM) (q := fullShare) (f := kV m c) (Finset.subset_univ _)) $$ Hkp; iintro Hkp
  iapply (wp_load 𝒱₀ (c : Thread nD τ) none Set.univ (m := vM) (q := fullShare) (f := vV m c) (Finset.subset_univ _)) $$ Hvp; iintro Hvp
  iapply (wp_load 𝒱₀ (c : Thread nD τ) none Set.univ (m := woM) (q := fullShare) (f := wo) (Finset.subset_univ _)) $$ Hwo; iintro Hwo
  rw [read_wo]
  iapply (wp_load_rect 𝒱₀ (c : Thread nD τ) none Set.univ (m := pfM) (r := Rect.unit (s := S32x16x256) ![0, 0, 0] S32x16x256.size inb_S32x16x256_S32x16x256_0_0_0) (q := fullShare) (f := f) (Finset.subset_univ _)) $$ Hpf; iintro Hpf
  iapply (wp_store 𝒱₀ (c : Thread nD τ) none Set.univ (m := pfM) (Mk := Finset.univ) (f := f) (Finset.subset_univ _)) $$ Hpf; iintro Hpf
  rw [write_pf]
  iapply Hk
  isplitl [Ho]; · iexact Ho
  isplitl [Ha0 Ha1]; · isplitl [Ha0] <;> iassumption
  isplitl [Hkp Hke]; · isplitl [Hkp] <;> iassumption
  isplitl [Hvp Hve]; · isplitl [Hvp] <;> iassumption
  isplitl [Hx]; · iexact Hx
  isplitl [Hwq]; · iexact Hwq
  isplitl [Hwo]; · iexact Hwo
  iexact Hpf

/-- A slot's rectangle, however its offsets are written, read and written through a whole buffer. -/
theorem slot_set0 (s : Dev nD) (o : Fin 3 → ℕ) (ho : o = so s) (h) : (pfM.access (Rect.unit (s := S32x16x256) o S1x16x256.size h)).set = slotSet s := by
  subst ho; exact (View.set_slice_whole cc0_scratch0 _).trans (rect_set s)
theorem slot_set1 (s : Dev nD) (o : Fin 3 → ℕ) (ho : o = so s) (h) : (acM.access (Rect.unit (s := S32x16x256) o S1x16x256.size h)).set = slotSet s := by
  subst ho; exact (View.set_slice_whole cc0_scratch1 _).trans (rect_set s)
theorem slot_set2 (s : Dev nD) (o : Fin 3 → ℕ) (ho : o = so s) (h) : (gaM.access (Rect.unit (s := S32x16x256) o S1x16x256.size h)).set = slotSet s := by
  subst ho; exact (View.set_slice_whole cc0_scratch2 _).trans (rect_set s)

/-- A store of a block into a slot leaves the block there. -/
theorem slot_write1 (s : Dev nD) (o : Fin 3 → ℕ) (ho : o = so s) (h) (f : Blocks F) (w : S1x16x256.Idx → Elt F .bf16) :
    ∀ i ∈ slotSet s, (acM.access (Rect.unit (s := S32x16x256) o S1x16x256.size h)).write (Elt F) f w Finset.univ i = w (blk i) := by
  intro i hi
  subst ho
  obtain ⟨z, rfl⟩ := exists_ri hi h
  rw [blk_ri]
  exact View.write_emb_of_mem (v := acM.access (Rect.unit (s := S32x16x256) (so s) S1x16x256.size h)) f w (Finset.mem_univ z)
theorem slot_write2 (s : Dev nD) (o : Fin 3 → ℕ) (ho : o = so s) (h) (f : Blocks F) (w : S1x16x256.Idx → Elt F .bf16) :
    ∀ i ∈ slotSet s, (gaM.access (Rect.unit (s := S32x16x256) o S1x16x256.size h)).write (Elt F) f w Finset.univ i = w (blk i) := by
  intro i hi
  subst ho
  obtain ⟨z, rfl⟩ := exists_ri hi h
  rw [blk_ri]
  exact View.write_emb_of_mem (v := gaM.access (Rect.unit (s := S32x16x256) (so s) S1x16x256.size h)) f w (Finset.mem_univ z)
/-- A load of a slot reads the block in it. -/
theorem slot_read0 (s : Dev nD) (o : Fin 3 → ℕ) (ho : o = so s) (h) (f : Blocks F) (i : S32x16x256.Idx) (hi : i ∈ slotSet s) :
    (pfM.access (Rect.unit (s := S32x16x256) o S1x16x256.size h)).read (Elt F) f (blk i) = f i := by
  subst ho
  obtain ⟨z, rfl⟩ := exists_ri hi h
  rw [blk_ri]
  rfl

theorem put_self {s : Dev nD} {i : S32x16x256.Idx} (hi : i ∈ slotSet s) : put s i = i := by
  have h0 := mem_slotSet.mp hi
  funext a; fin_cases a
  · exact Fin.ext h0.symm
  · rfl
  · rfl

/-- The device's own block goes into its landing buffer as it is. -/
theorem step_own (c : Dev nD) (Q : PUnit → sProp 𝕄) (k : Pr F) :
    iprop(pfS c c fullShare (PV c) ∗ (∃ f, acS c c fullShare f))
      ⊢ iprop(((pfS c c fullShare (PV c) ∗ acS c c fullShare (accV PV c)) -∗ WP c k Q) -∗ WP c (own c k) Q) := by
  unfold own pfS acS
  iintro ⟨Hp, ⟨%f, Ha⟩⟩ Hk
  iapply (wp_load_rect 𝒱₀ (c : Thread nD τ) none Set.univ (m := pfM) (r := ownR c) (S := slotSet c) (q := fullShare) (f := PV c) (by rw [slot_set0 c _ (off5 c)])) $$ Hp; iintro Hp
  iapply (wp_load_rect 𝒱₀ (c : Thread nD τ) none Set.univ (m := acM) (r := ownR c) (S := slotSet c) (q := fullShare) (f := f) (by rw [slot_set1 c _ (off5 c)])) $$ Ha; iintro Ha
  iapply (wp_store 𝒱₀ (c : Thread nD τ) none Set.univ (m := acM) (r := ownR c) (Mk := Finset.univ) (S := slotSet c) (f := f)
    (by rw [View.setOn_univ, slot_set1 c _ (off5 c)])) $$ Ha; iintro Ha
  iapply Hk
  isplitl [Hp]; · iexact Hp
  iapply (Entails.of_eq (pointsTo_congr (ℓ := (c : Thread nD τ).loc cc0_scratch1) (q := fullShare)
    (f := (acM.access (ownR c)).write (Elt F) f (k0_pay18 ((pfM.access (ownR c)).read (Elt F) (PV c))) Finset.univ) (g := accV PV c) (fun i hi => by
    refine (slot_write1 c _ (off5 c) _ f _ i hi).trans ?_
    unfold k0_pay18
    rw [shapeCast_shapeCast]
    refine (slot_read0 c _ (off5 c) _ _ i hi).trans ?_
    unfold accV
    rw [lead_of_mem hi, put_self hi])))
  iexact Ha

/-- The 32 blocks are read, summed, and the sum put into the device's own slot of the gathering buffer. -/
theorem step_reduce (c : Dev nD) (Q : PUnit → sProp 𝕄) (k : Pr F) :
    iprop((((c : Thread nD τ).loc cc0_scratch1) ↦{fullShare} (accV PV c)) ∗ (∃ f, gaS c c fullShare f))
      ⊢ iprop((((((c : Thread nD τ).loc cc0_scratch1) ↦{fullShare} (accV PV c)) ∗ gaS c c fullShare (gathV PV)) -∗ WP c k Q) -∗ WP c (reduce c k) Q) := by
  unfold reduce gaS
  iintro ⟨Ha, ⟨%f, Hg⟩⟩ Hk
  iapply (wp_load 𝒱₀ (c : Thread nD τ) none Set.univ (m := acM) (q := fullShare) (f := accV PV c) (Finset.subset_univ _)) $$ Ha; iintro Ha
  rw [read_ac]
  iapply (wp_load_rect 𝒱₀ (c : Thread nD τ) none Set.univ (m := gaM) (r := ownR c) (S := slotSet c) (q := fullShare) (f := f) (by rw [slot_set2 c _ (off5 c)])) $$ Hg; iintro Hg
  iapply (wp_store 𝒱₀ (c : Thread nD τ) none Set.univ (m := gaM) (r := ownR c) (Mk := Finset.univ) (S := slotSet c) (f := f)
    (by rw [View.setOn_univ, slot_set2 c _ (off5 c)])) $$ Hg; iintro Hg
  iapply Hk
  isplitl [Ha]; · iexact Ha
  iapply (Entails.of_eq (pointsTo_congr (ℓ := (c : Thread nD τ).loc cc0_scratch2) (q := fullShare)
    (f := (gaM.access (ownR c)).write (Elt F) f (k0_pay19 (accV PV c)) Finset.univ) (g := gathV PV) (fun i hi => by
    refine (slot_write2 c _ (off5 c) _ f _ i hi).trans ?_
    unfold gathV
    rw [lead_of_mem hi])))
  iexact Hg

/-- The 32 sums are read and the result stored. -/
theorem step_result (c : Dev nD) (q : PosShare TreeShare) (Q : PUnit → sProp 𝕄) (k : Pr F) :
    iprop((((c : Thread nD τ).loc cc0_scratch2) ↦{q} (gathV PV)) ∗ (∃ f, ((c : Thread nD τ).loc cc0_stg3_0) ↦{fullShare} f))
      ⊢ iprop((((((c : Thread nD τ).loc cc0_scratch2) ↦{q} (gathV PV)) ∗ (((c : Thread nD τ).loc cc0_stg3_0) ↦{fullShare} (k0_pay20 (gathV PV)))) -∗ WP c k Q)
        -∗ WP c (result k) Q) := by
  unfold result
  iintro ⟨Hg, ⟨%f, Hout⟩⟩ Hk
  iapply (wp_load 𝒱₀ (c : Thread nD τ) none Set.univ (m := gaM) (q := q) (f := gathV PV) (Finset.subset_univ _)) $$ Hg; iintro Hg
  rw [read_ga]
  iapply (wp_load_rect 𝒱₀ (c : Thread nD τ) none Set.univ (m := oM) (r := Rect.unit (s := S2x128x512) ![0, 0, 0] S2x128x512.size inb_S2x128x512_S2x128x512_0_0_0) (q := fullShare) (f := f) (Finset.subset_univ _)) $$ Hout; iintro Hout
  iapply (wp_store 𝒱₀ (c : Thread nD τ) none Set.univ (m := oM) (Mk := Finset.univ) (f := f) (Finset.subset_univ _)) $$ Hout; iintro Hout
  rw [write_o]
  iapply Hk
  isplitl [Hg] <;> iassumption

end Cert.KernelIdeal.Sync

end
-- ==== Proof.IdealBody.lean ====
/-
The whole body on one device, from what the launch hands it to what it leaves.
-/
module

public import proofs.«01_k».proof.Proof.IdealStretch

@[expose] public section

noncomputable section

namespace Cert.KernelIdeal.Sync

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (PV : Dev nD → Blocks F) (K : Dev nD × Cx → ℕ)

/-! ## The semaphores of a device, listed by use -/

theorem big_range_add (a : ℕ) (Φ : ℕ → sProp 𝕄) : ∀ b, bigSep (Finset.range (a + b)) Φ = iprop(bigSep (Finset.range a) Φ ∗ bigSep (Finset.range b) fun i => Φ (a + i))
  | 0 => by
    have h1 : bigSep (Finset.range a) Φ ⊢ iprop(bigSep (Finset.range a) Φ ∗ emp) := by
      iintro H
      isplitl [H]; · iexact H
      iempintro
    have h2 : iprop(bigSep (Finset.range a) Φ ∗ emp) ⊢ bigSep (Finset.range a) Φ := by
      iintro ⟨H, -⟩; iexact H
    rw [add_zero, Finset.range_zero, bigSep_empty]
    exact BI.Entails.antisymm h1 h2
  | b + 1 => by
    rw [← add_assoc, bigSep_range_succ, bigSep_range_succ, big_range_add a Φ b]
    have sw : ∀ A B C : sProp 𝕄, iprop(A ∗ B ∗ C) ⊢ iprop(B ∗ A ∗ C) := fun A B C => by
      iintro ⟨H1, H2, H3⟩
      isplitl [H2]; · iexact H2
      isplitl [H1] <;> iassumption
    exact BI.Entails.antisymm (sw _ _ _) (sw _ _ _)

theorem big_fin (n : ℕ) (Φ : ℕ → sProp 𝕄) : bigSep (Finset.univ : Finset (Fin n)) (fun i => Φ i.val) = bigSep (Finset.range n) Φ := by
  have hu : Finset.range n = (Finset.univ : Finset (Fin n)).image Fin.val := by
    ext i; simp only [Finset.mem_range, Finset.mem_image, Finset.mem_univ, true_and]
    exact ⟨fun h => ⟨⟨i, h⟩, rfl⟩, fun ⟨x, e⟩ => e ▸ x.isLt⟩
  rw [hu, SparseCore.bigSep_image_of_injOn (fun i _ j _ e => Fin.ext e)]

/-- The 97 DMA semaphores of a device: its 31 of the sends, those of the two exchanges (its own one and one for each peer), and the two of the copies. -/
theorem by_use (c : Dev nD) (Φ : ℕ → sProp 𝕄) : bigSep (Finset.univ : Finset (Fin 97)) (fun i => Φ (4 + i.val))
    = iprop((bigSep (Finset.range 31) fun j => Φ (4 + j)) ∗ (Φ (35 + c.val) ∗ bigSep (Finset.range 31) fun j => Φ (35 + (pv c j).val))
        ∗ (Φ (67 + c.val) ∗ bigSep (Finset.range 31) fun j => Φ (67 + (pv c j).val)) ∗ (Φ 99 ∗ Φ 100)) := by
  have h1 : bigSep (Finset.range 32) (fun i => Φ (35 + i)) = iprop(Φ (35 + c.val) ∗ bigSep (Finset.range 31) fun j => Φ (35 + (pv c j).val)) :=
    (big_fin 32 fun i => Φ (35 + i)).symm.trans (big_pv c fun s => Φ (35 + s.val))
  have h2 : bigSep (Finset.range 32) (fun i => Φ (67 + i)) = iprop(Φ (67 + c.val) ∗ bigSep (Finset.range 31) fun j => Φ (67 + (pv c j).val)) :=
    (big_fin 32 fun i => Φ (67 + i)).symm.trans (big_pv c fun s => Φ (67 + s.val))
  have h3 : bigSep (Finset.range 2) (fun i => Φ (99 + i)) = iprop(Φ 99 ∗ Φ 100) := by
    rw [← big_fin 2 (fun i => Φ (99 + i)), BI.bigSep_fin_two]; rfl
  rw [← h1, ← h2, ← h3, big_fin 97 fun i => Φ (4 + i), show 97 = 31 + (32 + (32 + 2)) from rfl, big_range_add, big_range_add, big_range_add]
  have e1 : (fun i => Φ (4 + (31 + i))) = fun i => Φ (35 + i) := funext fun i => congrArg Φ (by omega)
  have e2 : (fun i => Φ (4 + (31 + (32 + i)))) = fun i => Φ (67 + i) := funext fun i => congrArg Φ (by omega)
  have e3 : (fun i => Φ (4 + (31 + (32 + (32 + i))))) = fun i => Φ (99 + i) := funext fun i => congrArg Φ (by omega)
  rw [e1, e2, e3]

/-! ## What a device starts with and what it leaves -/

/-- A whole buffer of device `c`, held in full. -/
abbrev pts (c : Dev nD) (b : Ref sig .tc) (f : b.ty.Contents (Elt F)) : sProp 𝕄 := ((c : Thread nD τ).loc b) ↦{fullShare} f

/-- The five duties a device performs for its peer at distance `j + 1`. -/
def toks (c : Dev nD) : sProp 𝕄 :=
  iprop((bigSep (Finset.range 31) fun j => dutyTok ER (barCell (nx c j)) 0 (30 - j))
    ∗ (bigSep (Finset.range 31) fun j => dutyTok ER (seCell c j) 0 0) ∗ (bigSep (Finset.range 31) fun j => dutyTok ER (seCell c j) 1 0)
    ∗ (bigSep (Finset.range 31) fun j => dutyTok ER (r1Cell (nx c j) c) 0 0) ∗ (bigSep (Finset.range 31) fun j => dutyTok ER (r2Cell (nx c j) c) 0 0)
    ∗ dutyTok ER (kvCell c 0) 0 0 ∗ dutyTok ER (kvCell c 1) 0 0)

/-- The credit of a device: a unit of its barrier from each peer, and a block of each exchange from each peer. -/
def creds (c : Dev nD) : sProp 𝕄 :=
  iprop(cred (tallyAt (barCell c) () 31) ∗ (bigSep (Finset.range 31) fun j => cred (tallyAt (r1Cell c (pv c j)) () N))
    ∗ bigSep (Finset.range 31) fun j => cred (tallyAt (r2Cell c (pv c j)) () N))

/-- The positions of a device on its own semaphores, all at the start. -/
def poss (c : Dev nD) : sProp 𝕄 :=
  iprop(atPos ER (barCell c) 0 ∅ 0 ∗ bigSep (Finset.univ : Finset (Fin 97)) fun i => atPos ER (dcell c (4 + i.val)) 0 ∅ 0)

/-- The five scratch buffers, holding anything. -/
def scr (c : Dev nD) : sProp 𝕄 :=
  iprop((∃ f, pts c cc0_scratch0 f) ∗ (∃ f, pts c cc0_scratch1 f) ∗ (∃ f, pts c cc0_scratch2 f) ∗ (∃ f, pts c cc0_scratch3 f) ∗ (∃ f, pts c cc0_scratch4 f))

/-- All semaphores of a device at zero. -/
def zeros (c : Dev nD) : sProp 𝕄 :=
  iprop(semVal (barCell c) 0 ∗ bigSep (Finset.univ : Finset (Fin 97)) fun i => semVal (dcell c (4 + i.val)) 0)

theorem snd1_eq (c : Dev nD) : bigSep (Finset.range 31) (snd1A PV c) = iprop((bigSep (Finset.range 31) fun j => pfS c (nx c j) fullShare (PV c))
    ∗ (bigSep (Finset.range 31) fun j => iprop(∃ f, acS (nx c j) c fullShare f)) ∗ (bigSep (Finset.range 31) fun j => dutyTok ER (seCell c j) 0 0)
    ∗ bigSep (Finset.range 31) fun j => dutyTok ER (r1Cell (nx c j) c) 0 0) := by
  rw [← bigSep_sep', ← bigSep_sep', ← bigSep_sep']; rfl
theorem snd2_eq (c : Dev nD) : bigSep (Finset.range 31) (snd2A PV c) = iprop((bigSep (Finset.range 31) fun j => gaS c c (shr j) (gathV PV))
    ∗ (bigSep (Finset.range 31) fun j => iprop(∃ f, gaS (nx c j) c fullShare f)) ∗ (bigSep (Finset.range 31) fun j => dutyTok ER (seCell c j) 1 0)
    ∗ (bigSep (Finset.range 31) fun j => reached ER (seCell c j) 1) ∗ bigSep (Finset.range 31) fun j => dutyTok ER (r2Cell (nx c j) c) 0 0) := by
  rw [← bigSep_sep', ← bigSep_sep', ← bigSep_sep', ← bigSep_sep']; rfl
theorem got_eq (c : Dev nD) : bigSep (Finset.range 31) (barGot (F := F) c) = iprop((bigSep (Finset.range 31) fun j => iprop(∃ f, acS (nx c j) c fullShare f))
    ∗ bigSep (Finset.range 31) fun j => iprop(∃ f, gaS (nx c j) c fullShare f)) := by
  rw [← bigSep_sep']; rfl
theorem w1A_eq (c : Dev nD) : bigSep (Finset.range 31) (w1A (F := F) c) = iprop((bigSep (Finset.range 31) fun j => cred (tallyAt (r1Cell c (pv c j)) () N))
    ∗ bigSep (Finset.range 31) fun j => atPos ER (r1Cell c (pv c j)) 0 ∅ 0) := by
  rw [← bigSep_sep']; rfl
theorem w2A_eq (c : Dev nD) : bigSep (Finset.range 31) (w2A (F := F) c) = iprop((bigSep (Finset.range 31) fun j => cred (tallyAt (r2Cell c (pv c j)) () N))
    ∗ bigSep (Finset.range 31) fun j => atPos ER (r2Cell c (pv c j)) 0 ∅ 0) := by
  rw [← bigSep_sep']; rfl
theorem w1B_eq (c : Dev nD) : bigSep (Finset.range 31) (w1B PV c) = iprop((bigSep (Finset.range 31) fun j => atPos ER (r1Cell c (pv c j)) 1 ∅ 0)
    ∗ bigSep (Finset.range 31) fun j => acS c (pv c j) fullShare (accV PV c)) := by
  rw [← bigSep_sep']; rfl
theorem w2B_eq (c : Dev nD) : bigSep (Finset.range 31) (w2B PV c) = iprop((bigSep (Finset.range 31) fun j => atPos ER (r2Cell c (pv c j)) 1 ∅ 0)
    ∗ bigSep (Finset.range 31) fun j => gaS c (pv c j) fullShare (gathV PV)) := by
  rw [← bigSep_sep']; rfl
theorem d1A_eq (c : Dev nD) : bigSep (Finset.range 31) (d1A (F := F) c) = iprop((bigSep (Finset.range 31) (sndB c)) ∗ bigSep (Finset.range 31) fun j => atPos ER (seCell c j) 0 ∅ 0) := by
  rw [← bigSep_sep']; rfl
theorem d2A_eq (c : Dev nD) : bigSep (Finset.range 31) (d2A (F := F) c) = iprop((bigSep (Finset.range 31) (sndB c)) ∗ bigSep (Finset.range 31) fun j => atPos ER (seCell c j) 1 ∅ 0) := by
  rw [← bigSep_sep']; rfl
theorem d1B_eq (c : Dev nD) : bigSep (Finset.range 31) (d1B PV c) = iprop((bigSep (Finset.range 31) fun j => atPos ER (seCell c j) 1 ∅ 0)
    ∗ (bigSep (Finset.range 31) fun j => reached ER (seCell c j) 1) ∗ bigSep (Finset.range 31) fun j => pfS c (nx c j) fullShare (PV c)) := by
  rw [← bigSep_sep', ← bigSep_sep']; rfl
theorem d2B_eq (c : Dev nD) : bigSep (Finset.range 31) (d2B PV c) = iprop((bigSep (Finset.range 31) fun j => atPos ER (seCell c j) 2 ∅ 0)
    ∗ bigSep (Finset.range 31) fun j => gaS c c (shr j) (gathV PV)) := by
  rw [← bigSep_sep']; rfl

/-- The landing slots of a device, kept for itself and handed to the peers that will write them. -/
theorem hand_out (c : Dev nD) : iprop((∃ f, pts c cc0_scratch1 f) ∗ (∃ f, pts c cc0_scratch2 f) ∗ bigSep (Finset.range 31) fun j => dutyTok ER (barCell (nx c j)) 0 (30 - j))
    ⊢ iprop((∃ f, acS c c fullShare f) ∗ (∃ f, gaS c c fullShare f) ∗ bigSep (Finset.range 31) (sigA (F := F) c)) := by
  iintro ⟨⟨%f, Ha⟩, ⟨%g, Hg⟩, Ht⟩
  ihave Ha := (Entails.of_eq ((ac_slots c fullShare f).trans (big_nx c _))) $$ Ha
  ihave Hg := (Entails.of_eq ((ga_slots c fullShare g).trans (big_nx c _))) $$ Hg
  icases Ha with ⟨Ha0, Ha⟩
  icases Hg with ⟨Hg0, Hg⟩
  isplitl [Ha0]; · iexists f; iexact Ha0
  isplitl [Hg0]; · iexists g; iexact Hg0
  ihave H := (Entails.of_eq (bigSep_sep' (Finset.range 31) (fun j => acS c (nx c j) fullShare f) (fun j => gaS c (nx c j) fullShare g)).symm) $$ [Ha Hg]
  · isplitl [Ha] <;> iassumption
  ihave H := (Entails.of_eq (bigSep_sep' (Finset.range 31) (fun j => dutyTok ER (barCell (nx c j)) 0 (30 - j)) _).symm) $$ [Ht H]
  · isplitl [Ht] <;> iassumption
  have hm : bigSep (Finset.range 31) (fun j => iprop(dutyTok ER (barCell (nx c j)) 0 (30 - j) ∗ acS c (nx c j) fullShare f ∗ gaS c (nx c j) fullShare g))
      ⊢ bigSep (Finset.range 31) (sigA (F := F) c) := bigSep_mono fun j hj => by
    unfold sigA barPay
    rw [nx_nx c (Finset.mem_range.mp hj)]
    show iprop(dutyTok ER (barCell (nx c j)) 0 (30 - j) ∗ acS c (nx c j) fullShare f ∗ gaS c (nx c j) fullShare g)
      ⊢ iprop(dutyTok ER (barCell (nx c j)) 0 (30 - j) ∗ (∃ f, acS c (nx c j) fullShare f) ∗ ∃ f, gaS c (nx c j) fullShare f)
    iintro ⟨H1, H2, H3⟩
    isplitl [H1]; · iexact H1
    isplitl [H2]
    · iexists f; iexact H2
    · iexists g; iexact H3
  iapply hm; iexact H

/-! ## Every semaphore is at zero at the end -/

theorem close_d (c : Dev nD) {n R : ℕ} (h : 4 ≤ n) (h' : n < 101) (hR : ∀ r, R ≤ r → (Rd m PV).duties (dcell c n) r = ∅) :
    iprop(recs m PV K ∗ atPos ER (dcell c n) R ∅ 0) ⊢ iprop(|={Set.univ}=> semVal (dcell c n) 0) := by
  iintro ⟨#HR, Ha⟩
  iapply (Rounds.cell_close ER (Rd m PV) (κ := kd K c n) (Es := Set.univ) (Set.mem_univ _) (fun h => h) hR)
  isplitr; · iapply (recs_inv_d m PV K c h h'); iexact HR
  iexact Ha

theorem close_bar (c : Dev nD) : iprop(recs m PV K ∗ atPos ER (barCell c) 1 ∅ 0) ⊢ iprop(|={Set.univ}=> semVal (barCell c) 0) := by
  iintro ⟨#HR, Ha⟩
  iapply (Rounds.cell_close ER (Rd m PV) (κ := K (c, none)) (Es := Set.univ) (Set.mem_univ _) (fun h => h) (duties_one_bar m PV c))
  isplitr; · iapply (recs_inv m PV K (c, none)); iexact HR
  iexact Ha

theorem close_big (c : Dev nD) (n : ℕ → ℕ) (R : ℕ) (h : ∀ j, j < 31 → 4 ≤ n j ∧ n j < 101) (hR : ∀ j, j < 31 → ∀ r, R ≤ r → (Rd m PV).duties (dcell c (n j)) r = ∅) :
    iprop(recs m PV K ∗ bigSep (Finset.range 31) fun j => atPos ER (dcell c (n j)) R ∅ 0)
      ⊢ iprop(|={Set.univ}=> bigSep (Finset.range 31) fun j => semVal (dcell c (n j)) 0) := by
  refine BIBase.Entails.trans ((sep_mono_left (BI.bigSep_of_persistent (Finset.range 31) (recs m PV K))).trans ?_) (bigSep_fupd (Finset.range 31) _)
  rw [← bigSep_sep']
  exact bigSep_mono fun j hj => close_d m PV K c (h j (Finset.mem_range.mp hj)).1 (h j (Finset.mem_range.mp hj)).2 (hR j (Finset.mem_range.mp hj))

theorem close_all (c : Dev nD) : iprop(recs m PV K ∗ atPos ER (barCell c) 1 ∅ 0 ∗ (bigSep (Finset.range 31) fun j => atPos ER (seCell c j) 2 ∅ 0)
      ∗ (atPos ER (r1Cell c c) 0 ∅ 0 ∗ bigSep (Finset.range 31) fun j => atPos ER (r1Cell c (pv c j)) 1 ∅ 0)
      ∗ (atPos ER (r2Cell c c) 0 ∅ 0 ∗ bigSep (Finset.range 31) fun j => atPos ER (r2Cell c (pv c j)) 1 ∅ 0)
      ∗ atPos ER (kvCell c 0) 1 ∅ 0 ∗ atPos ER (kvCell c 1) 1 ∅ 0)
    ⊢ iprop(|={Set.univ}=> zeros c) := by
  have hc := c.isLt; change c.val < 32 at hc
  have hp : ∀ j, (pv c j).val < 32 := fun j => (pv c j).isLt
  iintro ⟨#HR, Hb, Hs, ⟨H10, H1⟩, ⟨H20, H2⟩, Hk0, Hk1⟩
  imod (close_bar m PV K c) $$ [Hb] with Hb
  · isplitr; · iexact HR
    iexact Hb
  imod (close_big m PV K c (fun j => 4 + j) 2 (fun j hj => by constructor <;> omega) (fun j hj => duties_two m PV (seCell c j))) $$ [Hs] with Hs
  · isplitr; · iexact HR
    iexact Hs
  imod (close_d m PV K c (n := 35 + c.val) (by omega) (by omega) (duties_own1 m PV c)) $$ [H10] with H10
  · isplitr; · iexact HR
    iexact H10
  imod (close_d m PV K c (n := 67 + c.val) (by omega) (by omega) (duties_own2 m PV c)) $$ [H20] with H20
  · isplitr; · iexact HR
    iexact H20
  imod (close_big m PV K c (fun j => 35 + (pv c j).val) 1 (fun j hj => by have := hp j; constructor <;> omega)
    (fun j hj => duties_one m PV c (by have := hp j; omega) (by omega))) $$ [H1] with H1
  · isplitr; · iexact HR
    iexact H1
  imod (close_big m PV K c (fun j => 67 + (pv c j).val) 1 (fun j hj => by have := hp j; constructor <;> omega)
    (fun j hj => duties_one m PV c (by have := hp j; omega) (by omega))) $$ [H2] with H2
  · isplitr; · iexact HR
    iexact H2
  imod (close_d m PV K c (n := 99 + 0) (by omega) (by omega) (duties_one m PV c (by omega) (by omega))) $$ [Hk0] with Hk0
  · isplitr; · iexact HR
    iexact Hk0
  imod (close_d m PV K c (n := 99 + 1) (by omega) (by omega) (duties_one m PV c (by omega) (by omega))) $$ [Hk1] with Hk1
  · isplitr; · iexact HR
    iexact Hk1
  imodintro
  unfold zeros
  isplitl [Hb]; · iexact Hb
  iapply (Entails.of_eq (by_use c fun n => semVal (dcell c n) 0).symm)
  isplitl [Hs]; · iexact Hs
  isplitl [H10 H1]; · isplitl [H10] <;> iassumption
  isplitl [H20 H2]; · isplitl [H20] <;> iassumption
  isplitl [Hk0] <;> iassumption

/-! ## The body -/

/-- What a device's body starts from. -/
def bodyIn (c : Dev nD) (x : Vec F S2x128x512 .f32) (wq : Vec F S512x256 .f32) (wo : Vec F S256x512 .f32) : sProp 𝕄 :=
  iprop(ow c (O₀ c) ∗ (keP m c ∗ veP m c) ∗ toks c ∗ creds c ∗ poss c ∗ scr c
    ∗ pts c cc0_stg0_0 x ∗ pts c cc0_stg1_0 wq ∗ pts c cc0_stg2_0 wo ∗ ∃ f, pts c cc0_stg3_0 f)
/-- What it leaves: the result, and every semaphore at zero. -/
def bodyOut (c : Dev nD) (x : Vec F S2x128x512 .f32) (wq : Vec F S512x256 .f32) (wo : Vec F S256x512 .f32) : sProp 𝕄 :=
  iprop(ow c 0 ∗ (keP m c ∗ veP m c) ∗ zeros c ∗ scr c
    ∗ pts c cc0_stg0_0 x ∗ pts c cc0_stg1_0 wq ∗ pts c cc0_stg2_0 wo ∗ pts c cc0_stg3_0 (k0_pay20 (gathV PV)))

theorem above2 (c : Dev nD) : Above 1 (oR2 c 0) := above_mono (by decide) (above_oR2 c 0)

theorem body_sound (c : Dev nD) (x : Vec F S2x128x512 .f32) (wq : Vec F S512x256 .f32) (wo : Vec F S256x512 .f32)
    (hPV : PV c = partV c x wq (kV m c) (vV m c) wo) (Q : PUnit → sProp 𝕄) :
    iprop(recs m PV K ∗ bodyIn m c x wq wo) ⊢ iprop((bodyOut m PV c x wq wo -∗ Q ⟨⟩) -∗ WP c (body c) Q) := by
  unfold bodyIn bodyOut toks creds poss body
  iintro ⟨#HR, Ho, ⟨Hke, Hve⟩, ⟨Htb, Hts0, Hts1, Ht1, Ht2, Htk0, Htk1⟩, ⟨Hcb, Hc1, Hc2⟩, ⟨Hab, Hposs⟩, Hscr, Hx, Hwq, Hwo, Hout⟩ Hk
  ihave Hposs := (Entails.of_eq (by_use c fun n => atPos ER (dcell c n) 0 ∅ 0)) $$ Hposs
  icases Hposs with ⟨Has, ⟨Ha10, Ha1⟩, ⟨Ha20, Ha2⟩, Hak0, Hak1⟩
  unfold scr
  icases Hscr with ⟨Hpf, Hac, Hga, Hsk, Hsv⟩
  iapply (step_copyK m PV K c Q _) $$ [Hke Hsk Htk0]
  · isplitr; · iexact HR
    isplitl [Hke]; · iexact Hke
    isplitl [Hsk]; · iexact Hsk
    iexact Htk0
  iintro Hck0
  iapply (step_copyV m PV K c Q _) $$ [Hve Hsv Htk1]
  · isplitr; · iexact HR
    isplitl [Hve]; · iexact Hve
    isplitl [Hsv]; · iexact Hsv
    iexact Htk1
  iintro Hck1
  ihave H := (hand_out c) $$ [Hac Hga Htb]
  · isplitl [Hac]; · iexact Hac
    isplitl [Hga]; · iexact Hga
    iexact Htb
  icases H with ⟨Hac0, Hga0, Hsig⟩
  iapply (loop_signal m PV K c (oR2 c 0 + oR1 c 0) Q _) $$ [Ho Hsig]
  · isplitr; · iexact HR
    isplitl [Ho]; · iexact Ho
    iexact Hsig
  iintro Ho
  iapply (step_compute m PV K c (oR2 c 0 + oR1 c 0) (above_add (above_mono (by decide) (above_oR2 c 0)) (above_mono (by decide) (above_oR1 c 0))) x wq wo Q _)
    $$ [Ho Hck0 Hck1 Hak0 Hak1 Hx Hwq Hwo Hpf]
  · isplitr; · iexact HR
    isplitl [Ho]; · iexact Ho
    isplitl [Hck0 Hck1]; · isplitl [Hck0] <;> iassumption
    isplitl [Hak0 Hak1]; · isplitl [Hak0] <;> iassumption
    isplitl [Hx]; · iexact Hx
    isplitl [Hwq]; · iexact Hwq
    isplitl [Hwo]; · iexact Hwo
    iexact Hpf
  rw [← hPV]
  iintro ⟨Ho, ⟨Hak0, Hak1⟩, ⟨Hsk, Hke⟩, ⟨Hsv, Hve⟩, Hx, Hwq, Hwo, Hpf⟩
  iapply (step_barrier m PV K c (oR2 c 0 + oR1 c 0) (above_add (above_mono (by decide) (above_oR2 c 0)) (above_oR1 c 0)) Q _) $$ [Ho Hcb Hab]
  · isplitr; · iexact HR
    isplitl [Ho]; · iexact Ho
    isplitl [Hcb] <;> iassumption
  iintro ⟨Ho, Hab, Hgot⟩
  ihave Hgot := (Entails.of_eq (got_eq c)) $$ Hgot
  icases Hgot with ⟨Hacn, Hgan⟩
  ihave Hpf := (Entails.of_eq ((pf_slots c fullShare (PV c)).trans (big_nx c _))) $$ Hpf
  icases Hpf with ⟨Hpf0, Hpf⟩
  iapply (loop_send1 m PV K c (oR2 c 0) Q _) $$ [Ho Hpf Hacn Hts0 Ht1]
  · isplitr; · iexact HR
    isplitl [Ho]; · iexact Ho
    iapply (Entails.of_eq (snd1_eq PV c).symm)
    isplitl [Hpf]; · iexact Hpf
    isplitl [Hacn]; · iexact Hacn
    isplitl [Hts0] <;> iassumption
  iintro ⟨Ho, Hcs⟩
  iapply (step_own PV c Q _) $$ [Hpf0 Hac0]
  · isplitl [Hpf0] <;> iassumption
  iintro ⟨Hpf0, Hac0⟩
  iapply (loop_wait1 m PV K c Q _) $$ [Ho Hc1 Ha1]
  · isplitr; · iexact HR
    isplitl [Ho]; · iexact Ho
    iapply (Entails.of_eq (w1A_eq c).symm)
    isplitl [Hc1] <;> iassumption
  iintro ⟨Ho, H⟩
  ihave H := (Entails.of_eq (w1B_eq PV c)) $$ H
  icases H with ⟨Ha1, Hac⟩
  iapply (loop_done1 m PV K c Q _) $$ [Ho Hcs Has]
  · isplitr; · iexact HR
    isplitl [Ho]; · iexact Ho
    iapply (Entails.of_eq (d1A_eq c).symm)
    isplitl [Hcs] <;> iassumption
  iintro ⟨Ho, H⟩
  ihave H := (Entails.of_eq (d1B_eq PV c)) $$ H
  icases H with ⟨Has, Hrs, Hpf⟩
  ihave Hac := (Entails.of_eq ((ac_slots c fullShare (accV PV c)).trans (big_pv c _)).symm) $$ [Hac0 Hac]
  · isplitl [Hac0] <;> iassumption
  iapply (step_reduce PV c Q _) $$ [Hac Hga0]
  · isplitl [Hac] <;> iassumption
  iintro ⟨Hac, Hga0⟩
  ihave Hga0 := (Entails.of_eq (ga_halves c c (gathV PV))) $$ Hga0
  icases Hga0 with ⟨Hgl, Hgr⟩
  ihave Hgr := (Entails.of_eq (ga_pieces c c (gathV PV))) $$ Hgr
  iapply (loop_send2 m PV K c Q _) $$ [Ho Hgr Hgan Hts1 Hrs Ht2]
  · isplitr; · iexact HR
    isplitl [Ho]; · iexact Ho
    iapply (Entails.of_eq (snd2_eq PV c).symm)
    isplitl [Hgr]; · iexact Hgr
    isplitl [Hgan]; · iexact Hgan
    isplitl [Hts1]; · iexact Hts1
    isplitl [Hrs] <;> iassumption
  iintro ⟨Ho, Hcs⟩
  iapply (loop_wait2 m PV K c Q _) $$ [Ho Hc2 Ha2]
  · isplitr; · iexact HR
    isplitl [Ho]; · iexact Ho
    iapply (Entails.of_eq (w2A_eq c).symm)
    isplitl [Hc2] <;> iassumption
  iintro ⟨Ho, H⟩
  ihave H := (Entails.of_eq (w2B_eq PV c)) $$ H
  icases H with ⟨Ha2, Hga⟩
  have hh : bigSep (Finset.range 31) (fun j => gaS c (pv c j) fullShare (gathV PV))
      = iprop((bigSep (Finset.range 31) fun j => gaS c (pv c j) fullShare.left (gathV PV)) ∗ bigSep (Finset.range 31) fun j => gaS c (pv c j) fullShare.right (gathV PV)) := by
    rw [← bigSep_sep']; exact congrArg (bigSep _) (funext fun j => ga_halves c (pv c j) (gathV PV))
  ihave Hga := (Entails.of_eq hh) $$ Hga
  icases Hga with ⟨Hgl', Hgr'⟩
  ihave Hg := (Entails.of_eq ((ga_slots c fullShare.left (gathV PV)).trans (big_pv c _)).symm) $$ [Hgl Hgl']
  · isplitl [Hgl] <;> iassumption
  iapply (step_result PV c fullShare.left Q _) $$ [Hg Hout]
  · isplitl [Hg] <;> iassumption
  iintro ⟨Hg, Hout⟩
  iapply (loop_done2 m PV K c Q _) $$ [Ho Hcs Has]
  · isplitr; · iexact HR
    isplitl [Ho]; · iexact Ho
    iapply (Entails.of_eq (d2A_eq c).symm)
    isplitl [Hcs] <;> iassumption
  iintro ⟨Ho, H⟩
  ihave H := (Entails.of_eq (d2B_eq PV c)) $$ H
  icases H with ⟨Has, Hgr⟩
  ihave Hgr := (Entails.of_eq (ga_pieces c c (gathV PV)).symm) $$ Hgr
  ihave Hg := (Entails.of_eq ((ga_slots c fullShare.left (gathV PV)).trans (big_pv c _))) $$ Hg
  icases Hg with ⟨Hgl, Hgl'⟩
  ihave Hga0 := (Entails.of_eq (ga_halves c c (gathV PV)).symm) $$ [Hgl Hgr]
  · isplitl [Hgl] <;> iassumption
  ihave Hga := (Entails.of_eq hh.symm) $$ [Hgl' Hgr']
  · isplitl [Hgl'] <;> iassumption
  ihave Hg := (Entails.of_eq ((ga_slots c fullShare (gathV PV)).trans (big_pv c _)).symm) $$ [Hga0 Hga]
  · isplitl [Hga0] <;> iassumption
  ihave Hpf := (Entails.of_eq ((pf_slots c fullShare (PV c)).trans (big_nx c _)).symm) $$ [Hpf0 Hpf]
  · isplitl [Hpf0] <;> iassumption
  imod (close_all m PV K c) $$ [Hab Has Ha10 Ha1 Ha20 Ha2 Hak0 Hak1] with Hz
  · isplitr; · iexact HR
    isplitl [Hab]; · iexact Hab
    isplitl [Has]; · iexact Has
    isplitl [Ha10 Ha1]; · isplitl [Ha10] <;> iassumption
    isplitl [Ha20 Ha2]; · isplitl [Ha20] <;> iassumption
    isplitl [Hak0] <;> iassumption
  rw [wp_ret]; imodintro
  iapply Hk
  isplitl [Ho]; · iexact Ho
  isplitl [Hke Hve]; · isplitl [Hke] <;> iassumption
  isplitl [Hz]; · iexact Hz
  isplitl [Hpf Hac Hg Hsk Hsv]
  · isplitl [Hpf]; · iexists (PV c); iexact Hpf
    isplitl [Hac]; · iexists (accV PV c); iexact Hac
    isplitl [Hg]; · iexists (gathV PV); iexact Hg
    isplitl [Hsk]; · iexists (kV m c); unfold kP; iexact Hsk
    iexists (vV m c); unfold vP; iexact Hsv
  isplitl [Hx]; · iexact Hx
  isplitl [Hwq]; · iexact Hwq
  isplitl [Hwo]; · iexact Hwo
  iexact Hout

end Cert.KernelIdeal.Sync

end
-- ==== Proof.IdealLaunch.lean ====
/-
The launch: the ghost state of every device, the credit, and the run of the whole program.
-/
module

public import proofs.«01_k».proof.Proof.IdealBody
public import Idealize.ShloMosaic.Lib.Pipeline.CollectiveSegs
public import Idealize.ShloMosaic.Lib.Quiescent

@[expose] public section

noncomputable section

namespace Cert.KernelIdeal.Sync

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

/-! ## What every device computes -/

/-- The staged blocks of the windows: all of `x`, and the device's parts of the two weights. -/
def xS (c : Dev nD) : Vec F S2x128x512 .f32 := (win0_0.blk t0_0).view.read (Elt F) (m ((c : Thread nD τ).loc main_arg0))
def wqS (c : Dev nD) : Vec F S512x256 .f32 := (win0_1.blk t0_0).view.read (Elt F) (m ((c : Thread nD τ).loc main_arg1))
def woS (c : Dev nD) : Vec F S256x512 .f32 := (win0_2.blk t0_0).view.read (Elt F) (m ((c : Thread nD τ).loc main_arg4))
/-- The partial results of device `c`, in 32 blocks of rows. -/
def PVm (c : Dev nD) : Blocks F := partV c (xS m c) (wqS m c) (kV m c) (vV m c) (woS m c)
/-- The result, the same on every device. -/
def outV : Vec F S2x128x512 .f32 := k0_pay20 (gathV (PVm m))

/-! ## The ghost state at launch -/

def osem (i : Fin 97) : SemLoc sig := .dma (dsem (4 + i.val))

theorem ownSemFacts : Pipeline.OwnSemFacts cfg0.spec osem := by decide

def semNo : SemLoc sig → ℕ
  | .reg _ => 200
  | .dma q => q.val

theorem kcell_injective : Function.Injective (kcell : Dev nD × Cx → GSem nD τ sig) := by
  rintro ⟨c, k⟩ ⟨c', k'⟩ h
  have h1 : c = c' := congrArg (fun g : GSem nD τ sig => g.1.1) h
  subst h1
  have h2 : semNo (csem k) = semNo (csem k') := congrArg (fun g : GSem nD τ sig => semNo g.2) h
  have hs : ∀ i : Fin 97, semNo (csem (some i)) = 4 + i.val := fun i => by
    have := i.isLt
    show (4 + i.val) % 101 = _; omega
  have hn : semNo (csem none) = 200 := rfl
  have : k = k' := by
    cases k with
    | none => cases k' with
      | none => rfl
      | some i => rw [hs, hn] at h2; have := i.isLt; omega
    | some i => cases k' with
      | none => rw [hs, hn] at h2; have := i.isLt; omega
      | some j => rw [hs, hs] at h2; exact congrArg some (Fin.ext (by omega))
  rw [this]
def allCells : Finset (GSem nD τ sig) := Finset.univ.map ⟨kcell, kcell_injective⟩

/-- The duties, by the device that performs them: five for each of its 31 peers and two for its copies. -/
abbrev Tx : Type := (Fin 31 × Fin 5) ⊕ Fin 2
def tokOf : Dev nD × Tx → GSem nD τ sig × ℕ × ℕ
  | (c, .inl (j, ⟨0, _⟩)) => (barCell (nx c j.val), 0, 30 - j.val)
  | (c, .inl (j, ⟨1, _⟩)) => (seCell c j.val, 0, 0)
  | (c, .inl (j, ⟨2, _⟩)) => (seCell c j.val, 1, 0)
  | (c, .inl (j, ⟨3, _⟩)) => (r1Cell (nx c j.val) c, 0, 0)
  | (c, .inl (j, ⟨_ + 4, _⟩)) => (r2Cell (nx c j.val) c, 0, 0)
  | (c, .inr i) => (kvCell c i.val, 0, 0)
/-- A duty's device, semaphore, round and number, as numbers. -/
def tokNo (x : GSem nD τ sig × ℕ × ℕ) : ℕ × ℕ × ℕ × ℕ := (x.1.1.1.val, semNo x.1.2, x.2.1, x.2.2)

theorem tokNo_inl (c : Dev nD) (j : Fin 31) (k : Fin 5) : tokNo (tokOf (c, .inl (j, k)))
    = (if k.val = 1 ∨ k.val = 2 then c.val else (c.val + j.val + 1) % 32,
      if k.val = 0 then 200 else if k.val = 1 ∨ k.val = 2 then 4 + j.val else if k.val = 3 then 35 + c.val else 67 + c.val,
      if k.val = 2 then 1 else 0, if k.val = 0 then 30 - j.val else 0) := by
  have hj := j.isLt
  have hc := c.isLt; change c.val < 32 at hc
  have h1 : (dsem (4 + j.val)).val = 4 + j.val := dsem_val (by omega)
  have h2 : (dsem (35 + c.val)).val = 35 + c.val := dsem_val (by omega)
  have h3 : (dsem (67 + c.val)).val = 67 + c.val := dsem_val (by omega)
  rcases k with ⟨k, hk⟩
  rcases k with _ | _ | _ | _ | _ | k
  · rfl
  · exact Prod.ext rfl (Prod.ext h1 rfl)
  · exact Prod.ext rfl (Prod.ext h1 rfl)
  · exact Prod.ext rfl (Prod.ext h2 rfl)
  · exact Prod.ext rfl (Prod.ext h3 rfl)
  · omega
theorem tokNo_inr (c : Dev nD) (i : Fin 2) : tokNo (tokOf (c, .inr i)) = (c.val, 99 + i.val, 0, 0) := by
  have hi := i.isLt
  exact Prod.ext rfl (Prod.ext (dsem_val (by omega)) rfl)

theorem tokOf_injective : Function.Injective (tokOf : Dev nD × Tx → GSem nD τ sig × ℕ × ℕ) := by
  rintro ⟨c, t⟩ ⟨c', t'⟩ h
  have hn := congrArg tokNo h
  have hc := c.isLt; change c.val < 32 at hc
  have hc' := c'.isLt; change c'.val < 32 at hc'
  rcases t with ⟨j, k⟩ | i
  · have hj := j.isLt
    have hk := k.isLt
    rcases t' with ⟨j', k'⟩ | i'
    · have hj' := j'.isLt
      have hk' := k'.isLt
      rw [tokNo_inl, tokNo_inl] at hn
      simp only [Prod.mk.injEq] at hn
      obtain ⟨e1, e2, e3, e4⟩ := hn
      have ek : k.val = k'.val := by split_ifs at e2 e3 <;> omega
      rw [← ek] at e1 e2 e4
      have ec : c.val = c'.val ∧ j.val = j'.val := by split_ifs at e1 e2 e4 <;> omega
      have a1 : c = c' := Fin.ext ec.1
      have a2 : j = j' := Fin.ext ec.2
      have a3 : k = k' := Fin.ext ek
      rw [a1, a2, a3]
    · have hi' := i'.isLt
      rw [tokNo_inl, tokNo_inr] at hn
      simp only [Prod.mk.injEq] at hn
      obtain ⟨e1, e2, e3, e4⟩ := hn
      exfalso; split_ifs at e2 <;> omega
  · have hi := i.isLt
    rcases t' with ⟨j', k'⟩ | i'
    · have hj' := j'.isLt
      have hk' := k'.isLt
      rw [tokNo_inl, tokNo_inr] at hn
      simp only [Prod.mk.injEq] at hn
      obtain ⟨e1, e2, e3, e4⟩ := hn
      exfalso; split_ifs at e2 <;> omega
    · rw [tokNo_inr, tokNo_inr] at hn
      simp only [Prod.mk.injEq] at hn
      have a1 : c = c' := Fin.ext hn.1
      have a2 : i = i' := Fin.ext (by omega)
      rw [a1, a2]
def allToks : Finset (GSem nD τ sig × ℕ × ℕ) := Finset.univ.map ⟨tokOf, tokOf_injective⟩

def u₀ : UU :=
  (initOf (Pipeline.cells cfgs cellOf_inj) (Pipeline.launchToks cfgs cellOf_inj), initOf allCells allToks)

/-- What a device is dealt before the cells are opened: their states, its positions, and the duties it performs. -/
def G (c : Dev nD) : sProp 𝕄 :=
  iprop((bigSep Finset.univ fun k : Cx => roundState ER (Rd m (PVm m)) (kcell (c, k)) 0)
    ∗ ((bigSep Finset.univ fun k : Cx => atPos ER (kcell (c, k)) 0 ∅ 0) ∗ bigSep Finset.univ fun k : Cx => reached ER (kcell (c, k)) 0) ∗ toks c)

/-- The cells' invariants under their names, and that all are at round 0 at least. -/
def records (K : Dev nD × Cx → ℕ) : sProp 𝕄 :=
  iprop((bigSep Finset.univ fun ck => cellInv ER (Rd m (PVm m)) (K ck) (kcell ck)) ∗ bigSep Finset.univ fun ck : Dev nD × Cx => reached ER (kcell ck) 0)
instance records_persistent (K : Dev nD × Cx → ℕ) : BI.Persistent (records m K) := by unfold records; infer_instance

/-- What it has once they are opened. -/
def G' (c : Dev nD) : sProp 𝕄 := iprop(∃ K, records m K ∗ poss c ∗ toks c)

theorem big_opt (Φ : Cx → sProp 𝕄) : bigSep Finset.univ Φ = iprop(Φ none ∗ bigSep Finset.univ fun i : Fin 97 => Φ (some i)) := by
  have hu : (Finset.univ : Finset Cx) = insert none (Finset.univ.image some) := by
    refine (Finset.eq_univ_iff_forall.mpr fun k => ?_).symm
    cases k with
    | none => exact Finset.mem_insert_self _ _
    | some i => exact Finset.mem_insert_of_mem (Finset.mem_image_of_mem _ (Finset.mem_univ i))
  have hc : none ∉ (Finset.univ : Finset (Fin 97)).image some := fun h => by
    obtain ⟨i, -, e⟩ := Finset.mem_image.mp h
    exact absurd e (by intro e; cases e)
  rw [hu, BI.bigSep_insert hc, SparseCore.bigSep_image_of_injOn (fun i _ j _ e => Option.some.inj e)]; rfl

theorem poss_eq (c : Dev nD) : (poss c : sProp 𝕄) = bigSep Finset.univ fun k : Cx => atPos ER (kcell (c, k)) 0 ∅ 0 := by
  rw [big_opt]; rfl

theorem toks_eq (c : Dev nD) : (toks c : sProp 𝕄) = bigSep Finset.univ fun t : Tx => dutyTok ER (tokOf (c, t)).1 (tokOf (c, t)).2.1 (tokOf (c, t)).2.2 := by
  have h5 : ∀ Φ : Fin 5 → sProp 𝕄, bigSep Finset.univ Φ = iprop(Φ 0 ∗ Φ 1 ∗ Φ 2 ∗ Φ 3 ∗ Φ 4) := fun Φ =>
    bigSep_univ_eq_bigSepL [0, 1, 2, 3, 4] (by decide) (by decide) Φ
  have asc : ∀ A B C D E P Q : sProp 𝕄, iprop((A ∗ B ∗ C ∗ D ∗ E) ∗ P ∗ Q) = iprop(A ∗ B ∗ C ∗ D ∗ E ∗ P ∗ Q) := fun A B C D E P Q => by
    have h1 : iprop((A ∗ B ∗ C ∗ D ∗ E) ∗ P ∗ Q) ⊢ iprop(A ∗ B ∗ C ∗ D ∗ E ∗ P ∗ Q) := by
      iintro ⟨⟨H1, H2, H3, H4, H5⟩, H6, H7⟩
      isplitl [H1]; · iexact H1
      isplitl [H2]; · iexact H2
      isplitl [H3]; · iexact H3
      isplitl [H4]; · iexact H4
      isplitl [H5]; · iexact H5
      isplitl [H6] <;> iassumption
    have h2 : iprop(A ∗ B ∗ C ∗ D ∗ E ∗ P ∗ Q) ⊢ iprop((A ∗ B ∗ C ∗ D ∗ E) ∗ P ∗ Q) := by
      iintro ⟨H1, H2, H3, H4, H5, H6, H7⟩
      isplitl [H1 H2 H3 H4 H5]
      · isplitl [H1]; · iexact H1
        isplitl [H2]; · iexact H2
        isplitl [H3]; · iexact H3
        isplitl [H4] <;> iassumption
      isplitl [H6] <;> iassumption
    exact BI.Entails.antisymm h1 h2
  rw [bigSep_univ_sum, bigSep_univ_prod, BI.bigSep_fin_two]
  rw [bigSep_congr (s := Finset.univ) (fun (j : Fin 31) _ => h5 _), bigSep_sep', bigSep_sep', bigSep_sep', bigSep_sep']
  unfold toks
  rw [← big_fin 31 fun j => dutyTok ER (barCell (nx c j)) 0 (30 - j), ← big_fin 31 fun j => dutyTok ER (seCell c j) 0 0,
    ← big_fin 31 fun j => dutyTok ER (seCell c j) 1 0, ← big_fin 31 fun j => dutyTok ER (r1Cell (nx c j) c) 0 0,
    ← big_fin 31 fun j => dutyTok ER (r2Cell (nx c j) c) 0 0]
  exact (asc _ _ _ _ _ _ _).symm

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => (toks_eq c).symm
  iintro HX
  imod (Rounds.fund ER (Rd m (PVm m)) allCells allToks) $$ HX with ⟨Hst, Hr, Hat, Htok⟩
  imodintro
  ihave Hst := (Entails.of_eq (hX fun g => roundState ER (Rd m (PVm m)) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  isplitl [Hst]; · iexact Hst
  isplitl [Hat Hr]
  · isplitl [Hat] <;> iassumption
  iexact Htok

theorem unscopedSems0_eq (c : Dev nD) : (unscopedSems0 c : sProp 𝕄) = semVal (barCell c) 0 := by
  unfold unscopedSems0; rw [bigSep_eq_bigSepL_of_eq [SemLoc.reg barS] (by decide) (by decide)]; rfl
theorem ownSems0_eq (c : Dev nD) : (Pipeline.ownSems0 (Ix := Unit) (Name := ℕ) (U := UU) (Lvl := ℕ) (Val := Elt F) (τ := τ) osem c : sProp 𝕄)
    = bigSep Finset.univ fun i : Fin 97 => semVal (dcell c (4 + i.val)) 0 := rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cx => semVal (kcell (c, k)) 0 : sProp 𝕄) := by
  rw [ownSems0_eq, unscopedSems0_eq, big_opt]
  iintro ⟨HS, HB⟩
  isplitl [HB]; · iexact HB
  iexact HS

/-- A device's cells opened. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cx => iprop(∃ κ : ℕ, cellInv ER (Rd m (PVm m)) κ (kcell (c, k))))
          ∗ ((bigSep Finset.univ fun k : Cx => atPos ER (kcell (c, k)) 0 ∅ 0) ∗ bigSep Finset.univ fun k : Cx => reached ER (kcell (c, k)) 0) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Cx => semVal (kcell (c, k)) 0) ∗ bigSep Finset.univ fun k : Cx => roundState ER (Rd m (PVm m)) (kcell (c, k)) 0)
      ⊢ (|={Set.univ}=> bigSep Finset.univ fun k => iprop(∃ κ : ℕ, cellInv ER (Rd m (PVm m)) κ (kcell (c, k))) : sProp 𝕄) from by
        rw [← bigSep_sep']
        exact (bigSep_mono fun k _ => (Rounds.body_intro ER (Rd m (PVm m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × Cx → ℕ) (c : Dev nD) : iprop(records m K ∗ poss c ∗ toks c) ⊢ G' m c := by
  unfold G'
  iintro H
  iexists K
  iexact H

theorem regroup :
    (bigSep Finset.univ fun c : Dev nD => iprop((bigSep Finset.univ fun k : Cx => iprop(∃ κ : ℕ, cellInv ER (Rd m (PVm m)) κ (kcell (c, k))))
          ∗ ((bigSep Finset.univ fun k : Cx => atPos ER (kcell (c, k)) 0 ∅ 0) ∗ bigSep Finset.univ fun k : Cx => reached ER (kcell (c, k)) 0) ∗ toks c) : sProp 𝕄)
      ⊢ bigSep Finset.univ (G' m) := by
  rw [bigSep_sep', bigSep_sep', bigSep_sep', ← bigSep_univ_prod (fun ck : Dev nD × Cx => iprop(∃ κ : ℕ, cellInv ER (Rd m (PVm m)) κ (kcell ck))),
    ← bigSep_univ_prod (fun ck : Dev nD × Cx => (reached ER (kcell ck) 0 : sProp 𝕄))]
  iintro ⟨HI, ⟨Hat, #HR⟩, Htok⟩
  ihave HK := (BI.bigSep_exists_pi Finset.univ (fun (ck : Dev nD × Cx) (κ : ℕ) => (cellInv ER (Rd m (PVm m)) κ (kcell ck) : sProp 𝕄))) $$ HI
  icases HK with ⟨%K, #HI⟩
  have hp : iprop(records m K ∗ bigSep Finset.univ fun c : Dev nD => iprop(poss c ∗ toks c)) ⊢ bigSep Finset.univ (G' m) :=
    (sep_mono_left (BI.bigSep_of_persistent Finset.univ (records m K))).trans (by rw [← bigSep_sep']; exact bigSep_mono fun c _ => ghost_intro m K c)
  iapply hp
  isplitr
  · unfold records; isplitl; · iexact HI
    iexact HR
  rw [bigSep_sep']
  isplitl [Hat]
  · iapply (Entails.of_eq (bigSep_congr (s := Finset.univ) fun (c : Dev nD) _ => (poss_eq c).symm)); iexact Hat
  iexact Htok

/-- All devices' cells opened at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credit at launch -/

theorem tally_val (c : Dev nD) (n : ℕ) (h : n < 101) (d : Dev nD) (n' : ℕ) (h' : n' < 101) (k : ℕ) :
    (tallyAt (dcell d n') () k : CellTallies nD τ sig Unit) (dcell c n) () = if d = c ∧ n' = n then k else 0 := by
  rw [tallyAt_apply]
  refine if_congr ⟨fun e => ?_, fun e => ?_⟩ rfl rfl
  · have h1 : c = d := congrArg (fun g : GSem nD τ sig => g.1.1) e.1
    have h2 := congrArg (fun g : GSem nD τ sig => semNo g.2) e.1
    have h3 : (dsem n).val = (dsem n').val := h2
    rw [dsem_val h, dsem_val h'] at h3
    exact ⟨h1.symm, h3.symm⟩
  · rw [e.1, e.2]; exact ⟨rfl, rfl⟩
theorem tally_bar (c d : Dev nD) (k : ℕ) : (tallyAt (barCell d) () k : CellTallies nD τ sig Unit) (barCell c) () = if d = c then k else 0 := by
  rw [tallyAt_apply]
  refine if_congr ⟨fun e => ?_, fun e => ?_⟩ rfl rfl
  · have h1 : c = d := congrArg (fun g : GSem nD τ sig => g.1.1) e.1
    exact h1.symm
  · rw [e]; exact ⟨rfl, rfl⟩
theorem tally_bar_d (c d : Dev nD) (n k : ℕ) : (tallyAt (barCell d) () k : CellTallies nD τ sig Unit) (dcell c n) () = 0 := by
  rw [tallyAt_apply, if_neg fun e => by have := congrArg (fun g : GSem nD τ sig => g.2) e.1; cases this]
theorem tally_d_bar (c d : Dev nD) (n k : ℕ) : (tallyAt (dcell d n) () k : CellTallies nD τ sig Unit) (barCell c) () = 0 := by
  rw [tallyAt_apply, if_neg fun e => by have := congrArg (fun g : GSem nD τ sig => g.2) e.1; cases this]

theorem sum_apply (f : ℕ → CellTallies nD τ sig Unit) (g : GSem nD τ sig) (s : Finset ℕ) : (∑ j ∈ s, f j) g () = ∑ j ∈ s, f j g () := by
  induction s using Finset.induction_on with
  | empty => rw [Finset.sum_empty, Finset.sum_empty]; rfl
  | insert a s ha ih => rw [Finset.sum_insert ha, Finset.sum_insert ha, Pi.add_apply, Finsupp.add_apply, ih]

/-- A sum over a device's peers of what only one of them gives. -/
theorem sum_nx (d c : Dev nD) (k : ℕ) : (∑ j ∈ Finset.Ico 0 31, if nx d j = c then k else 0) = if d = c then 0 else k := by
  by_cases h : d = c
  · rw [if_pos h]
    exact Finset.sum_eq_zero fun j hj => if_neg fun e => nx_ne d (Finset.mem_Ico.mp hj).2 (e.trans h.symm)
  · rw [if_neg h]
    obtain ⟨j, hj, e⟩ := exists_nx (c := d) (s := c) (fun e => h e.symm)
    rw [Finset.sum_eq_single j]
    · exact if_pos e
    · intro i hi hne
      exact if_neg fun e' => hne (nx_inj d (Finset.mem_Ico.mp hi).2 hj (e'.trans e.symm))
    · intro hn; exact absurd (Finset.mem_Ico.mpr ⟨Nat.zero_le _, hj⟩) hn

theorem owed_bar (d c : Dev nD) : O₀ d (barCell c) () = if d = c then 0 else 1 := by
  unfold O₀ oR1 oR2 oBar
  rw [Pi.add_apply, Finsupp.add_apply, Pi.add_apply, Finsupp.add_apply, sum_apply, sum_apply, sum_apply,
    Finset.sum_eq_zero (fun j _ => tally_d_bar c (nx d j) (67 + d.val) N), Finset.sum_eq_zero (fun j _ => tally_d_bar c (nx d j) (35 + d.val) N),
    Finset.sum_congr rfl (fun j _ => tally_bar c (nx d j) 1), sum_nx, Nat.add_zero, Nat.zero_add]
theorem owed_r1 (d c s : Dev nD) : O₀ d (r1Cell c s) () = if d = s then (if d = c then 0 else N) else 0 := by
  have hd := d.isLt; change d.val < 32 at hd
  have hs := s.isLt; change s.val < 32 at hs
  unfold O₀ oR1 oR2 oBar
  rw [Pi.add_apply, Finsupp.add_apply, Pi.add_apply, Finsupp.add_apply, sum_apply, sum_apply, sum_apply,
    Finset.sum_eq_zero (fun j _ => tally_bar_d c (nx d j) (35 + s.val) 1),
    Finset.sum_eq_zero (s := Finset.Ico 0 31) (f := fun j => (tallyAt (r2Cell (nx d j) d) () N : CellTallies nD τ sig Unit) (r1Cell c s) ())
      (fun j _ => (tally_val c (35 + s.val) (by omega) (nx d j) (67 + d.val) (by omega) N).trans (if_neg fun e => by omega)),
    Finset.sum_congr rfl (fun j _ => tally_val c (35 + s.val) (by omega) (nx d j) (35 + d.val) (by omega) N), Nat.add_zero, Nat.zero_add]
  by_cases h : d = s
  · rw [if_pos h, ← sum_nx d c N]
    exact Finset.sum_congr rfl fun j _ => if_congr ⟨fun e => e.1, fun e => ⟨e, by rw [h]⟩⟩ rfl rfl
  · rw [if_neg h]
    exact Finset.sum_eq_zero fun j _ => if_neg fun e => h (Fin.ext (by omega))
theorem owed_r2 (d c s : Dev nD) : O₀ d (r2Cell c s) () = if d = s then (if d = c then 0 else N) else 0 := by
  have hd := d.isLt; change d.val < 32 at hd
  have hs := s.isLt; change s.val < 32 at hs
  unfold O₀ oR1 oR2 oBar
  rw [Pi.add_apply, Finsupp.add_apply, Pi.add_apply, Finsupp.add_apply, sum_apply, sum_apply, sum_apply,
    Finset.sum_eq_zero (fun j _ => tally_bar_d c (nx d j) (67 + s.val) 1),
    Finset.sum_eq_zero (s := Finset.Ico 0 31) (f := fun j => (tallyAt (r1Cell (nx d j) d) () N : CellTallies nD τ sig Unit) (r2Cell c s) ())
      (fun j _ => (tally_val c (67 + s.val) (by omega) (nx d j) (35 + d.val) (by omega) N).trans (if_neg fun e => by omega)),
    Finset.sum_congr rfl (fun j _ => tally_val c (67 + s.val) (by omega) (nx d j) (67 + d.val) (by omega) N), Nat.add_zero, Nat.add_zero]
  by_cases h : d = s
  · rw [if_pos h, ← sum_nx d c N]
    exact Finset.sum_congr rfl fun j _ => if_congr ⟨fun e => e.1, fun e => ⟨e, by rw [h]⟩⟩ rfl rfl
  · rw [if_neg h]
    exact Finset.sum_eq_zero fun j _ => if_neg fun e => h (Fin.ext (by omega))

theorem launch_bar (c : Dev nD) : tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel
theorem launch_r1 (c s : Dev nD) (h : s ≠ c) :
    tallyOn (r1Cell c s) (launchCredit (Pipeline.owing O₀) 0 (r1Cell c s)) = (tallyAt (r1Cell c s) () N : CellTallies nD τ sig Unit) := by
  unfold tallyAt; refine congrArg _ (Finsupp.ext fun u => ?_); cases u
  rw [Pipeline.launchCredit_owing, Finsupp.single_eq_same, Finset.sum_congr rfl fun d _ => owed_r1 d c s,
    Finset.sum_eq_single s (fun d _ hd => if_neg hd) (fun hn => absurd (Finset.mem_univ _) hn), if_pos rfl, if_neg h]
theorem launch_r2 (c s : Dev nD) (h : s ≠ c) :
    tallyOn (r2Cell c s) (launchCredit (Pipeline.owing O₀) 0 (r2Cell c s)) = (tallyAt (r2Cell c s) () N : CellTallies nD τ sig Unit) := by
  unfold tallyAt; refine congrArg _ (Finsupp.ext fun u => ?_); cases u
  rw [Pipeline.launchCredit_owing, Finsupp.single_eq_same, Finset.sum_congr rfl fun d _ => owed_r2 d c s,
    Finset.sum_eq_single s (fun d _ hd => if_neg hd) (fun hn => absurd (Finset.mem_univ _) hn), if_pos rfl, if_neg h]

/-- The launch credit of a device has what its body starts with. -/
theorem creds_intro (c : Dev nD) : (Pipeline.launchCred O₀ c : sProp 𝕄) ⊢ creds c := by
  have hi : Set.InjOn osem ((Finset.univ : Finset (Fin 97)) : Set (Fin 97)) := fun i _ j _ e => by
    have h1 := congrArg semNo e
    have h2 : (dsem (4 + i.val)).val = (dsem (4 + j.val)).val := h1
    have hi := i.isLt; have hj := j.isLt
    rw [dsem_val (by omega), dsem_val (by omega)] at h2
    exact Fin.ext (by omega)
  have hs : (Finset.univ : Finset (Fin 97)).image osem ⊆ Finset.univ.erase (SemLoc.reg barS) := fun x hx => by
    obtain ⟨i, -, rfl⟩ := Finset.mem_image.mp hx
    exact Finset.mem_erase.mpr ⟨(fun e => nomatch e), Finset.mem_univ _⟩
  unfold Pipeline.launchCred creds
  rw [bigSep_univ_at _ (SemLoc.reg barS), launch_bar]
  refine sep_mono_right ((BI.bigSep_subset hs).trans ?_)
  rw [SparseCore.bigSep_image_of_injOn hi]
  refine (Entails.of_eq (by_use c fun n => cred (tallyOn (dcell c n) (launchCredit (Pipeline.owing O₀) 0 (dcell c n))))).trans ?_
  rw [bigSep_congr (s := Finset.range 31) (fun j hj => congrArg cred (launch_r1 c (pv c j) (pv_ne c (Finset.mem_range.mp hj)))),
    bigSep_congr (s := Finset.range 31) (fun j hj => congrArg cred (launch_r2 c (pv c j) (pv_ne c (Finset.mem_range.mp hj))))]
  show BIBase.Entails (PROP := sProp 𝕄) _ _
  iintro ⟨-, ⟨-, H1⟩, ⟨-, H2⟩, -⟩
  isplitl [H1] <;> iassumption

end Cert.KernelIdeal.Sync

end
-- ==== Proof.IdealRun.lean ====
/-
The run of the whole program: what every array holds at the end, and that every counter is zero again.
-/
module

public import proofs.«01_k».proof.Proof.IdealLaunch
public import proofs.«01_k».proof.Proof.Gen.KernelIdeal.Points

@[expose] public section

noncomputable section

namespace Cert.KernelIdeal.Sync

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]

local notation "𝕄" => MT nD τ sig Unit (Elt F) ℕ UU ℕ

variable (m : (ℓ : Loc nD τ sig) → Buf (Elt F) ℓ) (ρ : Dev nD → PrngReg)

/-! ## The body's obligation -/

/-- What a device's body starts with. -/
def start (c : Dev nD) : sProp 𝕄 :=
  iprop((∃ K, recs m (PVm m) K ∗ poss c ∗ toks c) ∗ creds c ∗ keP m c ∗ veP m c)
def Φ₀ (c : Dev nD) : sProp 𝕄 := iprop(start m c ∗ scr c)
def Φ₁ (c : Dev nD) : sProp 𝕄 := iprop(zeros c ∗ scr c ∗ keP m c ∗ veP m c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m c
    | ⟨1, _⟩ => wqS m c
    | ⟨2, _⟩ => woS m c
    | ⟨3, _⟩ => outV m
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) c (Memref.whole b) fullShare X : sProp 𝕄)
      = iprop(∃ f : Buf (Elt F) ((c : Thread nD τ).loc b), ⌜f = X⌝ ∗ ((c : Thread nD τ).loc b) ↦{fullShare} f) := by
  unfold owns; simp only [Memref.view_whole, View.read_whole, View.set_whole]

abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))
def bodyPost (c : Dev nD) : sProp 𝕄 :=
  iprop(Φ₁ m c ∗ (dats m ρ 0 c).owesAt () t0_0.succ ∗ stg c cc0_stg0_0 (xS m c) ∗ stg c cc0_stg1_0 (wqS m c) ∗ stg c cc0_stg2_0 (woS m c)
    ∗ stg c cc0_stg3_0 (outV m))

/-- The body from the one state to the other. -/
theorem sound_body (c : Dev nD) : bodyPre m ρ c ⊢ WP c (body c) fun _ => bodyPost m ρ c := by
  unfold bodyPre Φ₀ start
  iintro ⟨⟨⟨⟨%K, HR, Hp, Ht⟩, Hc, HkV⟩, Hs⟩, Ho, ⟨%d0, %g0, %hg0, H0⟩, ⟨%d1, %g1, %hg1, H1⟩, ⟨%d2, %g2, %hg2, H2⟩, ⟨%d3, %g3, %hg3, H3⟩⟩
  have h0 : g0 = xS m c := by rw [hg0]; unfold Dat.before; rw [if_pos (fetch0_0 t0_0)]; rfl
  have h1 : g1 = wqS m c := by rw [hg1]; unfold Dat.before; rw [if_pos (fetch0_1 t0_0)]; rfl
  have h2 : g2 = woS m c := by rw [hg2]; unfold Dat.before; rw [if_pos (fetch0_2 t0_0)]; rfl
  subst h0 h1 h2
  unfold Dat.owesAt Pipeline.owesWithin
  icases Ho with ⟨%W, %hW, HO⟩
  rw [show (dats m ρ 0 c).owed t0_0.castSucc = O₀ c from rfl]
  iapply (body_sound m (PVm m) K c (xS m c) (wqS m c) (woS m c) rfl fun _ => bodyPost m ρ c) $$ [HR Hp Ht Hc HkV Hs HO H0 H1 H2 H3]
  · isplitl [HR]; · iexact HR
    unfold bodyIn ow
    isplitl [HO]; · (iexists W; iexact HO)
    isplitl [HkV]; · iexact HkV
    isplitl [Ht]; · iexact Ht
    isplitl [Hc]; · iexact Hc
    isplitl [Hp]; · iexact Hp
    isplitl [Hs]; · iexact Hs
    isplitl [H0]; · iexact H0
    isplitl [H1]; · iexact H1
    isplitl [H2]; · iexact H2
    iexists g3; iexact H3
  unfold bodyOut bodyPost Φ₁ ow Dat.owesAt Pipeline.owesWithin
  rw [show (dats m ρ 0 c).owed t0_0.succ = 0 from rfl]
  iintro ⟨⟨%W', HO⟩, HkV, Hz, Hs, H0, H1, H2, H3⟩
  isplitl [Hz Hs HkV]
  · isplitl [Hz]; · iexact Hz
    isplitl [Hs] <;> iassumption
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  iexists _; isplitr; · (ipureintro; rfl)
  iexact H3

/-- The body's first operation asks which device it runs on. -/
theorem sound_entry (c : Dev nD) (Q : PUnit → sProp 𝕄) :
    WP c (body c) Q ⊢ WP c (.op .deviceId fun d => body d) Q := by
  unfold WP; rw [wp_deviceId]

set_option maxRecDepth 100000 in
/-- The pipeline's obligation about the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre m ρ c ⊢ WP c
    (cc0_body xM (Memref.isWhole_whole _) wqM (Memref.isWhole_whole _) keM (Memref.isWhole_whole _) veM (Memref.isWhole_whole _) woM (Memref.isWhole_whole _)
      oM (Memref.isWhole_whole _) pfM (Memref.isWhole_whole _) acM (Memref.isWhole_whole _) gaM (Memref.isWhole_whole _) kM (Memref.isWhole_whole _)
      vM (Memref.isWhole_whole _) cc0_scratch5 cc0_scratch6 cc0_scratch7 cc0_scratch8) (fun _ => bodyPost m ρ c)
  rw [body_eq]
  exact (sound_body m ρ c).trans (sound_entry c _)

/-! ## The launch's sides -/

theorem share_eq (c : Dev nD) (w : Fin cfg0.W) : (dats m ρ 0 c).share w = fullShare := by unfold Dat.share; split <;> rfl

/-- The parts of the key and value arrays that no copy of the device reads. -/
def others (c : Dev nD) : sProp 𝕄 :=
  iprop((((c : Thread nD τ).loc main_arg2) ↦[Finset.univ \ (kslice c).view.set]{fullShare} m ((c : Thread nD τ).loc main_arg2))
    ∗ (((c : Thread nD τ).loc main_arg3) ↦[Finset.univ \ (vslice c).view.set]{fullShare} m ((c : Thread nD τ).loc main_arg3)))

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ others m c) := by
  rw [Pipeline.unscopedRestP_none, unscopedRest0_eq]
  iintro ⟨⟨H2, H3⟩, Hlev, Hcr, -, HG⟩
  ihave Hc := (creds_intro (F := F) c) $$ Hcr
  ihave H2 := (pointsTo_split_subset (Finset.subset_univ (kslice c).view.set)).1 $$ H2
  ihave H3 := (pointsTo_split_subset (Finset.subset_univ (vslice c).view.set)).1 $$ H3
  icases H2 with ⟨H2, H2'⟩
  icases H3 with ⟨H3, H3'⟩
  imodintro
  unfold start G' others records recs keP veP lvs
  icases HG with ⟨%K, ⟨HI, HR⟩, Hp, Ht⟩
  isplitr [H2' H3']
  · isplitl [HI HR Hp Ht Hlev]
    · iexists K
      isplitl [HI HR Hlev]
      · isplitl [HI]; · iexact HI
        isplitl [HR]; · iexact HR
        iexact Hlev
      isplitl [Hp] <;> iassumption
    isplitl [Hc]; · iexact Hc
    isplitl [H2] <;> iassumption
  isplitl [H2'] <;> iassumption

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N)
      ⊢ iprop((unscopedSems0 c ∗ keP m c ∗ veP m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁ scr zeros
  iintro ⟨⟨HB, HS⟩, Hr, Hk⟩
  isplitl [HB Hk]
  · isplitl [HB] <;> iassumption
  isplitl [HS] <;> iassumption

theorem waits (c : Dev nD) : (levAts L lv : sProp 𝕄) ⊢ Pipeline.cellsWaits cfgs (dats m ρ) () 0 c :=
  Pipeline.cellsWaits_intro cfgs (dats m ρ) () 0 c fun w s t =>
    mayWait c _ 0 _ (by fin_cases w <;> fin_cases s <;> exact Nat.le_of_eq rfl) (by
      rcases t with ⟨_ | _, ht⟩
      · exact above_O₀ c
      · exact above_zero 0)

/-- What a device's key and value arrays and its counters outside the kernel are at the end. -/
def QY (c : Dev nD) (s : MemSt nD τ sig (Elt F)) : Prop :=
  (s.mem ((c : Thread nD τ).loc main_arg2) = m ((c : Thread nD τ).loc main_arg2) ∧ s.mem ((c : Thread nD τ).loc main_arg3) = m ((c : Thread nD τ).loc main_arg3))
    ∧ ∀ sm : SemLoc sig, sm.isScoped .tc = false → s.sem ((c.tc : Thread nD τ), sm) = 0

theorem final_read (c : Dev nD) (s' : Phys nD τ sig (Elt F)) :
    iprop((unscopedSems0 c ∗ keP m c ∗ veP m c) ∗ others m c ∗ SI s') ⊢ |={Set.univ}=> iprop(⌜QY m c s'.mem⌝ ∗ SI s' : sProp 𝕄) := by
  unfold keP veP others
  iintro ⟨⟨Hu, H2, H3⟩, ⟨H2', H3'⟩, HSI⟩
  ihave H2 := (pointsTo_split_subset (ℓ := (c : Thread nD τ).loc main_arg2) (q := fullShare) (f := m ((c : Thread nD τ).loc main_arg2)) (Finset.subset_univ (kslice c).view.set)).2 $$ [H2 H2']
  · isplitl [H2] <;> iassumption
  ihave H3 := (pointsTo_split_subset (ℓ := (c : Thread nD τ).loc main_arg3) (q := fullShare) (f := m ((c : Thread nD τ).loc main_arg3)) (Finset.subset_univ (vslice c).view.set)).2 $$ [H3 H3']
  · isplitl [H3] <;> iassumption
  icombine HSI H2 gives %h2
  icombine HSI H3 gives %h3
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ h2, Buf.eq_of_forall_mem_univ h3⟩, hs⟩
  iexact HSI

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, (∀ w : Fin cfg0.W, r.2.mem ((cfg0.win w).arr.view.loc (c : Thread nD τ)) = finalA m ρ c w) ∧ QY m c r.2

set_option maxRecDepth 100000 in
/-- From any memory with zero counters, every weakly fair run of the 32 devices ends, with every array at its final
    contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ keP m c ∗ veP m c)) (Z := others m)
    (hX := start_intro m ρ) (hin := phi0_intro m ρ) (hout := phi1_exit m ρ)
    (QY := QY m) (hY := final_read m)
    (hQ := fun _ h hs => ⟨fun c => ⟨(h c).1, (h c).2.2⟩, sem_eq_zero hs fun c => (h c).2.2.2⟩)

/-! ## The arrays at the end -/

theorem final_0 (c : Dev nD) : finalA m ρ c 0 = m ((c : Thread nD τ).loc main_arg0) := (dats (F := F) m ρ 0 c).arrAt_in (0 : Fin 4) rfl _
theorem final_1 (c : Dev nD) : finalA m ρ c 1 = m ((c : Thread nD τ).loc main_arg1) := (dats (F := F) m ρ 0 c).arrAt_in (1 : Fin 4) rfl _
theorem final_2 (c : Dev nD) : finalA m ρ c 2 = m ((c : Thread nD τ).loc main_arg4) := (dats (F := F) m ρ 0 c).arrAt_in (2 : Fin 4) rfl _

/-- The result's window is the whole array. -/
theorem res_emb (i : S2x128x512.Idx) : (win0_3.blk t0_0).view.emb i = i := by
  funext k
  match k with
  | ⟨0, _⟩ => exact Fin.ext (by show 0 + 1 * (i ⟨0, _⟩).val = _; omega)
  | ⟨1, _⟩ => exact Fin.ext (by show 0 + 1 * (i ⟨1, _⟩).val = _; omega)
  | ⟨2, _⟩ => exact Fin.ext (by show 0 + 1 * (i ⟨2, _⟩).val = _; omega)

theorem final_3 (c : Dev nD) : finalA m ρ c 3 = outV m := by
  refine (dats (F := F) m ρ 0 c).arrAt_eq_of_cover (3 : Fin 4) (outV m) (fun t _ => ?_) (fun i => ⟨t0_0, flush0_3 _, ?_⟩)
  · rw [fin_N0 t]
    funext i
    exact congrArg (outV m) (res_emb i).symm
  · have := (win0_3.blk t0_0).view.emb_mem_set i
    rw [res_emb] at this
    exact this

/-- The run, in words: the arguments are what they were, the result is the same on every device, and every counter is
    zero again. -/
theorem run_spec : θ_run defs (onTc (τ := τ) (main (F := F))) ⟨m, fun _ => 0, ρ⟩ (fun r => (∀ c : Dev nD,
      r.2.mem ((c : Thread nD τ).loc main_v1) = outV m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4))
      ∧ r.2.sem = fun _ => 0) :=
  (θ_run defs (onTc (τ := τ) (main (F := F))) (s₀ m ρ)).mono (fun r h => ⟨fun c => ⟨((h.1 c).1 3).trans (final_3 m ρ c), ((h.1 c).1 0).trans (final_0 m ρ c),
    ((h.1 c).1 1).trans (final_1 m ρ c), (h.1 c).2.1.1, (h.1 c).2.1.2, ((h.1 c).1 2).trans (final_2 m ρ c)⟩, h.2⟩) (run_main m ρ)

end Cert.KernelIdeal.Sync

end
-- ==== Proof.ValHead.lean ====
/-
Attention over one head of one batch, read at an index at the extended reals: the specification's own functions, and the
kernel's operations for one head.
-/
module

public import proofs.«01_k».proof.Proof.IdealRun
public import Idealize.ShloMosaic.Lib.Pipeline.Value
public import Idealize.ShloMosaic.Lib.ValueIdx
public import Idealize.ShloMosaic.PureOps.Ideal.Laws

@[expose] public section

noncomputable section

namespace Cert.Val

open Idealize.ShloMosaic Idealize.ShloMosaic.ValueIdx
open Cert.KernelIdeal Cert.KernelIdeal.Gen

/-! ## The functions -/

/-- The largest of a row of scores, from minus infinity. -/
def rowMax (s : Fin 128 → EReal) : EReal :=
  (Finset.univ : Finset (Fin 128)).fold max (Ideal.ofBits .f32 0xFF800000#32) s
/-- The weight a row of scores gives to column `j`. -/
def wt (s : Fin 128 → EReal) (j : Fin 128) : EReal :=
  Ideal.div (Ideal.exp (s j - rowMax s)) (∑ j' : Fin 128, Ideal.exp (s j' - rowMax s))
/-- The weighted sum of a column of values. -/
def attn (s v : Fin 128 → EReal) : EReal := ∑ j : Fin 128, wt s j * v j
/-- The scaled score of a query row against a key row. -/
def score (q k : Fin 64 → EReal) : EReal := (∑ e : Fin 64, q e * k e) * Ideal.ofBits .f32 0x3E000000#32

/-! ## A product of matrices at an index -/

/-- A product of an `M×K` by a `K×N` matrix into zeros, at `(i, j)`. -/
theorem matmul_plain_apply (M K N : Nat) (l : FVec Ideal ⟨2, ![M, K]⟩ .f32) (r : FVec Ideal ⟨2, ![K, N]⟩ .f32)
    (i : Fin M) (j : Fin N) :
    matmul (DotDims.plain M K N) none l r (constant ⟨2, ![M, N]⟩ .f32 0x00000000#32) (ix2 i j)
      = ∑ k : Fin K, l (ix2 i k) * r (ix2 k j) := by
  simp only [matmul]
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 i j) ((contrEquiv1 (DotDims.plain M K N) K rfl rfl).symm k) = ix2 i k :=
    funext fun a => Fin.ext (by
      match a with
      | ⟨0, _⟩ => rfl
      | ⟨1, _⟩ => exact ((DotDims.plain M K N).lhsIdx_val_of_single rfl _ _).trans hk)
  have er : (DotDims.plain M K N).rhsIdx (ix2 i j) ((contrEquiv1 (DotDims.plain M K N) K rfl rfl).symm k) = ix2 k j :=
    funext fun a => Fin.ext (by
      match a with
      | ⟨0, _⟩ => exact ((DotDims.plain M K N).rhsIdx_val_of_single rfl _ _).trans hk
      | ⟨1, _⟩ => rfl)
  rw [el, er]

/-- A product of an `M×K` matrix by the transpose of an `N×K` matrix into zeros, at `(i, j)`. -/
theorem matmul_transposed_apply (M K N : Nat) (l : FVec Ideal ⟨2, ![M, K]⟩ .f32) (r : FVec Ideal ⟨2, ![N, K]⟩ .f32)
    (i : Fin M) (j : Fin N) :
    matmul (DotDims.transposedRhs M K N) none l r (constant ⟨2, ![M, N]⟩ .f32 0x00000000#32) (ix2 i j)
      = ∑ k : Fin K, l (ix2 i k) * r (ix2 j k) := by
  simp only [matmul]
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 i j) ((contrEquiv1 (DotDims.transposedRhs M K N) K rfl rfl).symm k)
      = ix2 i k :=
    funext fun a => Fin.ext (by
      match a with
      | ⟨0, _⟩ => rfl
      | ⟨1, _⟩ => exact ((DotDims.transposedRhs M K N).lhsIdx_val_of_single rfl _ _).trans hk)
  have er : (DotDims.transposedRhs M K N).rhsIdx (ix2 i j) ((contrEquiv1 (DotDims.transposedRhs M K N) K rfl rfl).symm k)
      = ix2 j k :=
    funext fun a => Fin.ext (by
      match a with
      | ⟨0, _⟩ => rfl
      | ⟨1, _⟩ => exact ((DotDims.transposedRhs M K N).rhsIdx_val_of_single rfl _ _).trans hk)
  rw [el, er]

/-! ## One head, by the kernel's operations -/

section Head
variable {F : FTy → Type} [FloatOps F]

/-- The products of the query rows with the key rows. -/
def dotsK (q k : FVec F S128x64 .f32) : FVec F S128x128 .f32 :=
  matmul dot_S128x64_S128x64_S128x128_1_1_0_0_n_n none q k (constant S128x128 .f32 0x00000000#32)
/-- Scores scaled by an eighth. -/
def scaleK (s : FVec F S128x128 .f32) : FVec F S128x128 .f32 := mulf s (broadcast S128x128 (Scalar.ofBits .f32 0x3E000000#32))
/-- Each row's largest entry. -/
def maxK (s : FVec F S128x128 .f32) : FVec F S128x1 .f32 :=
  shapeCast S128x1 (multiReduction .maximumf [1] S128 s 0xFF800000#32 reduces_S128x128_S128 (.inl rfl) rfl) shapeCasts_S128_S128x1
/-- Each row's sum. -/
def sumK (s : FVec F S128x128 .f32) : FVec F S128x1 .f32 :=
  shapeCast S128x1 (multiReduction .add [1] S128 s 0x00000000#32 reduces_S128x128_S128 (.inl rfl) rfl) shapeCasts_S128_S128x1
/-- The exponentials of the scores, each less a given entry of its row. -/
def expK (s : FVec F S128x128 .f32) (m : FVec F S128x1 .f32) : FVec F S128x128 .f32 :=
  exp (subf s (broadcastTo S128x128 m broadcasts_S128x1_S128x128))
/-- Each entry over its row's sum. -/
def normK (p : FVec F S128x128 .f32) : FVec F S128x128 .f32 :=
  divf p (broadcastTo S128x128 (sumK p) broadcasts_S128x1_S128x128)
/-- The weights times the values. -/
def ctxK (p : FVec F S128x128 .f32) (v : FVec F S128x64 .f32) : FVec F S128x64 .f32 :=
  matmul dot_S128x128_S128x64_S128x64_1_0_0_1_n_n none p v (constant S128x64 .f32 0x00000000#32)
/-- Attention over one head. -/
def headK (q k v : FVec F S128x64 .f32) : FVec F S128x64 .f32 :=
  ctxK (normK (expK (scaleK (dotsK q k)) (maxK (scaleK (dotsK q k))))) v

end Head

/-- A column broadcast along the rows, at an index. -/
theorem bcast_apply (m : FVec Ideal S128x1 .f32) (i j : Fin 128) :
    broadcastTo S128x128 m broadcasts_S128x1_S128x128 (ix2 i j) = m (ix2 i (0 : Fin 1)) :=
  broadcastTo_apply m _ _ _ (fun a => match a with
    | ⟨0, _⟩ => rfl
    | ⟨1, _⟩ => rfl)

/-- A vector stood up as a column, at an index. -/
theorem col_apply (x : FVec Ideal S128 .f32) (i : Fin 128) :
    shapeCast S128x1 x shapeCasts_S128_S128x1 (ix2 i (0 : Fin 1)) = x (ix1 i) :=
  shapeCast_apply x _ _ _ (by simp [Shape.rowMajor_val_one, Shape.rowMajor_val_two, ix1, ix2])

theorem maxK_apply (s : FVec Ideal S128x128 .f32) (i : Fin 128) :
    maxK s (ix2 i (0 : Fin 1)) = rowMax (fun j => s (ix2 i j)) := by
  refine (col_apply _ i).trans ((Ideal.multiReduction_maximumf_single s _ reduces_S128x128_S128 (.inl rfl) rfl (ix1 i)).trans ?_)
  refine congrArg (Finset.fold max _ · _) (funext fun j => congrArg s (funext fun a => Fin.ext (by
    match a with
    | ⟨0, _⟩ => rfl
    | ⟨1, _⟩ => rfl)))

theorem sumK_apply (s : FVec Ideal S128x128 .f32) (i : Fin 128) :
    sumK s (ix2 i (0 : Fin 1)) = ∑ j : Fin 128, s (ix2 i j) := by
  refine (col_apply _ i).trans ((Ideal.multiReduction_add_single s _ reduces_S128x128_S128 (.inl rfl) rfl (ix1 i)).trans ?_)
  refine Finset.sum_congr rfl fun j _ => congrArg s (funext fun a => Fin.ext (by
    match a with
    | ⟨0, _⟩ => rfl
    | ⟨1, _⟩ => rfl))

theorem scaleK_apply (q k : FVec Ideal S128x64 .f32) (i j : Fin 128) :
    scaleK (dotsK q k) (ix2 i j) = score (fun e => q (ix2 i e)) (fun e => k (ix2 j e)) :=
  congrArg (· * Ideal.ofBits .f32 0x3E000000#32) (matmul_transposed_apply 128 64 128 q k i j)

/-- One head at a query row and a column of the head. -/
theorem headK_apply (q k v : FVec Ideal S128x64 .f32) (i : Fin 128) (d : Fin 64) :
    headK q k v (ix2 i d)
      = attn (fun j => score (fun e => q (ix2 i e)) (fun e => k (ix2 j e))) (fun j => v (ix2 j d)) := by
  have hs : ∀ j, scaleK (dotsK q k) (ix2 i j) = score (fun e => q (ix2 i e)) (fun e => k (ix2 j e)) :=
    fun j => scaleK_apply q k i j
  have hexp : ∀ j, expK (scaleK (dotsK q k)) (maxK (scaleK (dotsK q k))) (ix2 i j)
      = Ideal.exp (score (fun e => q (ix2 i e)) (fun e => k (ix2 j e))
          - rowMax (fun j => score (fun e => q (ix2 i e)) (fun e => k (ix2 j e)))) := fun j => by
    show Ideal.exp (scaleK (dotsK q k) (ix2 i j) - broadcastTo S128x128 (maxK (scaleK (dotsK q k))) _ (ix2 i j)) = _
    rw [bcast_apply, maxK_apply, hs, funext hs]
  unfold headK attn
  refine (matmul_plain_apply 128 128 64 _ v i d).trans (Finset.sum_congr rfl fun j _ => congrArg (· * _) ?_)
  show Ideal.div (expK (scaleK (dotsK q k)) (maxK (scaleK (dotsK q k))) (ix2 i j))
    (broadcastTo S128x128 (sumK (expK (scaleK (dotsK q k)) (maxK (scaleK (dotsK q k))))) _ (ix2 i j)) = _
  rw [bcast_apply, sumK_apply, hexp, Finset.sum_congr rfl fun j _ => hexp j]
  rfl

end Cert.Val
-- ==== Proof.ValPart.lean ====
/-
A device's partial results read at an index at the extended reals.
-/
module

public import proofs.«01_k».proof.Proof.ValHead

@[expose] public section

noncomputable section

namespace Cert.Val

open Idealize.ShloMosaic Idealize.ShloMosaic.ValueIdx
open Cert.KernelIdeal Cert.KernelIdeal.Gen Cert.KernelIdeal.Sync

/-! ## Places -/

/-- Row `i` of batch `b` among the 256 rows. -/
def row (b : Fin 2) (i : Fin 128) : Fin 256 := ⟨128 * b.val + i.val, by omega⟩
/-- Column `d` of head `h` among a device's 256 columns. -/
def col (h : Fin 4) (d : Fin 64) : Fin 256 := ⟨64 * h.val + d.val, by omega⟩
/-- Which of the eight heads a device fetched is its head `h`: the upper four when the bit is set. -/
def pick (w : BitVec 1) (h : Fin 4) : Fin 8 := ⟨(if w = 1 then 4 else 0) + h.val, by split <;> omega⟩

/-! ## The kernel's operations, head by head -/

section Ops
variable {F : FTy → Type} [FloatOps F]

/-- The four heads' rows out of an array of four heads. -/
def hdK (x : FVec F S128x4x64 .f32) : Fin 4 → FVec F S128x64 .f32 :=
  ![shapeCast S128x64 (extractStridedSlice S128x1x64 ![0, 0, 0] x slices_S128x4x64_o0_0_0_S128x1x64) shapeCasts_S128x1x64_S128x64,
    shapeCast S128x64 (extractStridedSlice S128x1x64 ![0, 1, 0] x slices_S128x4x64_o0_1_0_S128x1x64) shapeCasts_S128x1x64_S128x64,
    shapeCast S128x64 (extractStridedSlice S128x1x64 ![0, 2, 0] x slices_S128x4x64_o0_2_0_S128x1x64) shapeCasts_S128x1x64_S128x64,
    shapeCast S128x64 (extractStridedSlice S128x1x64 ![0, 3, 0] x slices_S128x4x64_o0_3_0_S128x1x64) shapeCasts_S128x1x64_S128x64]
/-- The queries of each batch and head. -/
def qH (q : FVec F S256x256 .f32) : Fin 2 → Fin 4 → FVec F S128x64 .f32 :=
  ![![extractStridedSlice S128x64 ![0, 0] q slices_S256x256_o0_0_S128x64, extractStridedSlice S128x64 ![0, 64] q slices_S256x256_o0_64_S128x64,
      extractStridedSlice S128x64 ![0, 128] q slices_S256x256_o0_128_S128x64, extractStridedSlice S128x64 ![0, 192] q slices_S256x256_o0_192_S128x64],
    ![extractStridedSlice S128x64 ![128, 0] q slices_S256x256_o128_0_S128x64, extractStridedSlice S128x64 ![128, 64] q slices_S256x256_o128_64_S128x64,
      extractStridedSlice S128x64 ![128, 128] q slices_S256x256_o128_128_S128x64, extractStridedSlice S128x64 ![128, 192] q slices_S256x256_o128_192_S128x64]]
/-- Four heads' results side by side. -/
def cat4 (f : Fin 4 → FVec F S128x64 .f32) : FVec F S128x256 .f32 :=
  concatenate S128x256 1 (List.ofFn fun h => ⟨S128x64, f h⟩) concatenates_S128x64_S128x64_S128x64_S128x64_S128x256_d1
/-- Two batches' results one above the other. -/
def cat2 (f : Fin 2 → FVec F S128x256 .f32) : FVec F S256x256 .f32 :=
  concatenate S256x256 0 (List.ofFn fun b => ⟨S128x256, f b⟩) concatenates_S128x256_S128x256_S256x256_d0
/-- The results of all heads of both batches. -/
def ctxAll (w : BitVec 1) (q : FVec F S256x256 .f32) (k v : Fin 2 → Vec F S1x128x8x64 .f32) : FVec F S256x256 .f32 :=
  cat2 fun b => cat4 fun h => headK (qH q b h) (hdK (k0_pay10 w (k b)) h) (hdK (k0_pay10 w (v b)) h)
/-- Their product with the device's rows of the output weights. -/
def projK (a : FVec F S256x256 .f32) (wo : Vec F S256x512 .f32) : FVec F S256x512 .f32 :=
  matmul dot_S256x256_S256x512_S256x512_1_0_0_1_n_n none a (shapeCast S256x512 wo shapeCasts_S256x512_S256x512) (constant S256x512 .f32 0x00000000#32)

/-- The partial results in these terms. -/
theorem partOf_eq (w : BitVec 1) (x : Vec F S2x128x512 .f32) (wq : Vec F S512x256 .f32) (ka va kb vb : Vec F S1x128x8x64 .f32)
    (wo : Vec F S256x512 .f32) :
    partOf w x wq ka va kb vb wo
      = shapeCast S32x16x256 (shapeCast S32x16x256 (truncf .bf16 (projK (ctxAll w (qOf x wq) ![ka, kb] ![va, vb]) wo) bitsLt_bf16_f32)
          shapeCasts_S256x512_S32x16x256) shapeCasts_S32x16x256_S32x16x256 := rfl

end Ops

/-! ## Each of them at an index -/

/-- The heads' rows at an index. -/
theorem hdK_apply (x : FVec Ideal S128x4x64 .f32) (h : Fin 4) (j : Fin 128) (d : Fin 64) :
    hdK x h (ix2 j d) = x (ix3 j h d) := by
  have key : ∀ (o : Fin 4) (hs : S128x4x64.Slices ![0, o.val, 0] S128x1x64),
      shapeCast S128x64 (extractStridedSlice S128x1x64 ![0, o.val, 0] x hs) shapeCasts_S128x1x64_S128x64 (ix2 j d) = x (ix3 j o d) := by
    intro o hs
    refine (shapeCast_apply _ _ _ (ix3 j (0 : Fin 1) d) ?_).trans (extractStridedSlice_apply _ x hs _ (ix3 j o d) fun a => ?_)
    · rw [Shape.rowMajor_val_three, Shape.rowMajor_val_two]
      show (j.val * 1 + 0) * 64 + d.val = j.val * 64 + d.val
      omega
    · match a with
      | ⟨0, _⟩ => exact (Nat.zero_add _).symm
      | ⟨1, _⟩ => rfl
      | ⟨2, _⟩ => exact (Nat.zero_add _).symm
  match h with
  | ⟨0, _⟩ => exact key 0 slices_S128x4x64_o0_0_0_S128x1x64
  | ⟨1, _⟩ => exact key 1 slices_S128x4x64_o0_1_0_S128x1x64
  | ⟨2, _⟩ => exact key 2 slices_S128x4x64_o0_2_0_S128x1x64
  | ⟨3, _⟩ => exact key 3 slices_S128x4x64_o0_3_0_S128x1x64

/-- The queries of a batch and head at an index. -/
theorem qH_apply (q : FVec Ideal S256x256 .f32) (b : Fin 2) (h : Fin 4) (i : Fin 128) (d : Fin 64) :
    qH q b h (ix2 i d) = q (ix2 (row b i) (col h d)) := by
  have key : ∀ (b : Fin 2) (h : Fin 4) (hs : S256x256.Slices ![128 * b.val, 64 * h.val] S128x64),
      extractStridedSlice S128x64 ![128 * b.val, 64 * h.val] q hs (ix2 i d) = q (ix2 (row b i) (col h d)) := fun b h hs =>
    extractStridedSlice_apply _ q hs _ _ fun a => by
      match a with
      | ⟨0, _⟩ => rfl
      | ⟨1, _⟩ => rfl
  match b, h with
  | ⟨0, _⟩, ⟨0, _⟩ => exact key 0 0 slices_S256x256_o0_0_S128x64
  | ⟨0, _⟩, ⟨1, _⟩ => exact key 0 1 slices_S256x256_o0_64_S128x64
  | ⟨0, _⟩, ⟨2, _⟩ => exact key 0 2 slices_S256x256_o0_128_S128x64
  | ⟨0, _⟩, ⟨3, _⟩ => exact key 0 3 slices_S256x256_o0_192_S128x64
  | ⟨1, _⟩, ⟨0, _⟩ => exact key 1 0 slices_S256x256_o128_0_S128x64
  | ⟨1, _⟩, ⟨1, _⟩ => exact key 1 1 slices_S256x256_o128_64_S128x64
  | ⟨1, _⟩, ⟨2, _⟩ => exact key 1 2 slices_S256x256_o128_128_S128x64
  | ⟨1, _⟩, ⟨3, _⟩ => exact key 1 3 slices_S256x256_o128_192_S128x64

theorem cat4_apply (f : Fin 4 → FVec Ideal S128x64 .f32) (i : Fin 128) (h : Fin 4) (d : Fin 64) :
    cat4 f (ix2 i (col h d)) = f h (ix2 i d) :=
  concatenate_ofFn_apply (t := S128x256) (s₁ := S128x64) 1 f _ rfl 64 rfl _ h
    (by show (64 * h.val + d.val) / 64 = h.val; omega) _ (by show d.val = (64 * h.val + d.val) % 64; omega)
    (fun b hb => by
      match b with
      | ⟨0, _⟩ => rfl
      | ⟨1, _⟩ => exact absurd rfl hb)

theorem cat2_apply (f : Fin 2 → FVec Ideal S128x256 .f32) (b : Fin 2) (i : Fin 128) (c : Fin 256) :
    cat2 f (ix2 (row b i) c) = f b (ix2 i c) :=
  concatenate_ofFn_apply (t := S256x256) (s₁ := S128x256) 0 f _ rfl 128 rfl _ b
    (by show (128 * b.val + i.val) / 128 = b.val; omega) _ (by show i.val = (128 * b.val + i.val) % 128; omega)
    (fun b hb => by
      match b with
      | ⟨0, _⟩ => exact absurd rfl hb
      | ⟨1, _⟩ => rfl)

/-- The four heads a device uses out of the eight it fetched. -/
theorem pick_apply (w : BitVec 1) (x : Vec Ideal S1x128x8x64 .f32) (j : Fin 128) (h : Fin 4) (d : Fin 64) :
    k0_pay10 w x (ix3 j h d) = x (ix4 (0 : Fin 1) j (pick w h) d) := by
  have key : ∀ (o : Nat) (ho : o + h.val < 8) (hs : S128x8x64.Slices ![0, o, 0] S128x4x64),
      extractStridedSlice S128x4x64 ![0, o, 0] (shapeCast S128x8x64 x shapeCasts_S1x128x8x64_S128x8x64) hs (ix3 j h d)
        = x (ix4 (0 : Fin 1) j ⟨o + h.val, ho⟩ d) := by
    intro o ho hs
    refine (extractStridedSlice_apply _ _ hs _ (ix3 j (⟨o + h.val, ho⟩ : Fin 8) d) fun a => ?_).trans (shapeCast_apply x _ _ _ ?_)
    · match a with
      | ⟨0, _⟩ => exact (Nat.zero_add _).symm
      | ⟨1, _⟩ => rfl
      | ⟨2, _⟩ => exact (Nat.zero_add _).symm
    · rw [Shape.rowMajor_val_three, Shape.rowMajor_val_four]
      show ((0 * 128 + j.val) * 8 + (o + h.val)) * 64 + d.val = (j.val * 8 + (o + h.val)) * 64 + d.val
      omega
  by_cases hw : w = 1
  · subst hw
    exact key 4 (by omega) slices_S128x8x64_o0_4_0_S128x4x64
  · have h0 := eq_zero_of_ne_one hw
    subst h0
    refine (key 0 (by omega) slices_S128x8x64_o0_0_0_S128x4x64).trans (congrArg x ?_)
    rfl

/-- The results of all heads at an index. -/
theorem ctxAll_apply (w : BitVec 1) (q : FVec Ideal S256x256 .f32) (k v : Fin 2 → Vec Ideal S1x128x8x64 .f32)
    (b : Fin 2) (i : Fin 128) (h : Fin 4) (d : Fin 64) :
    ctxAll w q k v (ix2 (row b i) (col h d))
      = attn (fun j => score (fun e => q (ix2 (row b i) (col h e))) (fun e => k b (ix4 (0 : Fin 1) j (pick w h) e)))
          (fun j => v b (ix4 (0 : Fin 1) j (pick w h) d)) := by
  unfold ctxAll
  rw [cat2_apply, cat4_apply, headK_apply]
  simp only [qH_apply, hdK_apply, pick_apply]

/-- The queries at an index. -/
theorem qOf_apply (x : Vec Ideal S2x128x512 .f32) (wq : Vec Ideal S512x256 .f32) (b : Fin 2) (i : Fin 128) (c : Fin 256) :
    qOf x wq (ix2 (row b i) c) = ∑ f : Fin 512, x (ix3 b i f) * wq (ix2 f c) := by
  refine (matmul_plain_apply 256 512 256 _ _ (row b i) c).trans (Finset.sum_congr rfl fun f _ => ?_)
  congr 1
  · refine (shapeCast_apply _ _ _ (ix3 b i f) ?_).trans (shapeCast_apply x _ _ _ rfl)
    rw [Shape.rowMajor_val_three, Shape.rowMajor_val_two]
    show (b.val * 128 + i.val) * 512 + f.val = (128 * b.val + i.val) * 512 + f.val
    omega
  · exact shapeCast_apply wq _ _ _ rfl

/-- The partial results at a place of the 32 blocks: the row and column with the same place in row-major order. -/
theorem partOf_apply (w : BitVec 1) (x : Vec Ideal S2x128x512 .f32) (wq : Vec Ideal S512x256 .f32)
    (ka va kb vb : Vec Ideal S1x128x8x64 .f32) (wo : Vec Ideal S256x512 .f32) (s : S32x16x256.Idx) (b : Fin 2) (i : Fin 128) (n : Fin 512)
    (hs : (128 * b.val + i.val) * 512 + n.val = ((s 0).val * 16 + (s 1).val) * 256 + (s 2).val) :
    partOf w x wq ka va kb vb wo s
      = ∑ c : Fin 256, ctxAll w (qOf x wq) ![ka, kb] ![va, vb] (ix2 (row b i) c) * wo (ix2 c n) := by
  rw [partOf_eq]
  refine (shapeCast_apply _ _ _ s rfl).trans ((shapeCast_apply _ _ _ (ix2 (row b i) n) ?_).trans
    ((matmul_plain_apply 256 256 512 _ _ (row b i) n).trans (Finset.sum_congr rfl fun c _ => ?_)))
  · rw [Shape.rowMajor_val_three, Shape.rowMajor_val_two]
    exact hs
  · exact congrArg (_ * ·) (shapeCast_apply wo _ _ _ rfl)

end Cert.Val
-- ==== Proof.ValKernel.lean ====
/-
The kernel's result read at an index at the extended reals, in terms of what the argument buffers hold.
-/
module

public import proofs.«01_k».proof.Proof.ValPart

@[expose] public section

noncomputable section

namespace Cert.Val

open Idealize.ShloMosaic Idealize.ShloMosaic.ValueIdx Idealize.ShloMosaic.TcCoe
open Cert.KernelIdeal Cert.KernelIdeal.Gen Cert.KernelIdeal.Sync

variable (m : (ℓ : Loc nD τ sig) → Buf (Elt Ideal) ℓ)

/-! ## What a device loads -/

/-- The arrays a device holds: activations, its columns of the query weights, keys, values, its rows of the output weights. -/
def aX (c : Fin 32) : FVec Ideal S2x128x512 .f32 := m (((c : Dev nD) : Thread nD τ).loc main_arg0)
def aQ (c : Fin 32) : FVec Ideal S512x256 .f32 := m (((c : Dev nD) : Thread nD τ).loc main_arg1)
def aK (c : Fin 32) : FVec Ideal S2x128x128x64 .f32 := m (((c : Dev nD) : Thread nD τ).loc main_arg2)
def aV (c : Fin 32) : FVec Ideal S2x128x128x64 .f32 := m (((c : Dev nD) : Thread nD τ).loc main_arg3)
def aO (c : Fin 32) : FVec Ideal S256x512 .f32 := m (((c : Dev nD) : Thread nD τ).loc main_arg4)

theorem x_emb (i : S2x128x512.Idx) : (win0_0.blk t0_0).view.emb i = i := by
  funext k
  match k with
  | ⟨0, _⟩ => exact Fin.ext (by show 0 + 1 * (i ⟨0, _⟩).val = _; omega)
  | ⟨1, _⟩ => exact Fin.ext (by show 0 + 1 * (i ⟨1, _⟩).val = _; omega)
  | ⟨2, _⟩ => exact Fin.ext (by show 0 + 1 * (i ⟨2, _⟩).val = _; omega)

theorem wq_emb (i : S512x256.Idx) : (win0_1.blk t0_0).view.emb i = i := by
  funext k
  match k with
  | ⟨0, _⟩ => exact Fin.ext (by show 0 + 1 * (i ⟨0, _⟩).val = _; omega)
  | ⟨1, _⟩ => exact Fin.ext (by show 0 + 1 * (i ⟨1, _⟩).val = _; omega)

theorem wo_emb (i : S256x512.Idx) : (win0_2.blk t0_0).view.emb i = i := by
  funext k
  match k with
  | ⟨0, _⟩ => exact Fin.ext (by show 0 + 1 * (i ⟨0, _⟩).val = _; omega)
  | ⟨1, _⟩ => exact Fin.ext (by show 0 + 1 * (i ⟨1, _⟩).val = _; omega)

/-- The activations a device holds are its whole argument. -/
theorem xS_eq (c : Dev nD) : xS m c = aX m c :=
  funext fun i => congrArg (aX m c) (x_emb i)
/-- The query weights a device holds are its whole argument. -/
theorem wqS_eq (c : Dev nD) : wqS m c = aQ m c :=
  funext fun i => congrArg (aQ m c) (wq_emb i)
/-- The output weights a device holds are its whole argument. -/
theorem woS_eq (c : Dev nD) : woS m c = aO m c :=
  funext fun i => congrArg (aO m c) (wo_emb i)

/-- Where a device's eight fetched heads start. -/
theorem off1_eq (c : Dev nD) : k0_off1 c = ![0, 0, 8 * (c.val / 2), 0] := by
  revert c; decide

/-- Head `h` of device `c`, of the 128. -/
def head (c : Fin 32) (h : Fin 4) : Fin 128 := ⟨4 * c.val + h.val, by omega⟩

/-- The heads a device picks from those it fetched are its own four. -/
theorem pick_val (c : Dev nD) (h : Fin 4) : 8 * (c.val / 2) + (pick (bit c) h).val = 4 * c.val + h.val := by
  have hb : ∀ c : Dev nD, 8 * (c.val / 2) + (if bit c = 1 then 4 else 0) = 4 * c.val := by decide
  have := hb c
  show 8 * (c.val / 2) + ((if bit c = 1 then 4 else 0) + h.val) = _
  omega

/-- The fetched keys at an index. -/
theorem kV_apply (c : Dev nD) (b : Fin 2) (j : Fin 128) (h : Fin 4) (e : Fin 64) :
    kV m c (ix4 b j (pick (bit c) h) e) = aK m c (ix4 b j (head c h) e) := by
  refine congrArg (aK m c) (funext fun a => Fin.ext ?_)
  have ho := off1_eq c
  have hp := pick_val c h
  match a with
  | ⟨0, _⟩ => show k0_off1 c 0 + 1 * b.val = b.val; rw [ho]; show 0 + 1 * b.val = b.val; omega
  | ⟨1, _⟩ => show k0_off1 c 1 + 1 * j.val = j.val; rw [ho]; show 0 + 1 * j.val = j.val; omega
  | ⟨2, _⟩ => show k0_off1 c 2 + 1 * (pick (bit c) h).val = 4 * c.val + h.val; rw [ho]; show 8 * (c.val / 2) + 1 * (pick (bit c) h).val = _; omega
  | ⟨3, _⟩ => show k0_off1 c 3 + 1 * e.val = e.val; rw [ho]; show 0 + 1 * e.val = e.val; omega

/-- The fetched values at an index. -/
theorem vV_apply (c : Dev nD) (b : Fin 2) (j : Fin 128) (h : Fin 4) (e : Fin 64) :
    vV m c (ix4 b j (pick (bit c) h) e) = aV m c (ix4 b j (head c h) e) := by
  refine congrArg (aV m c) (funext fun a => Fin.ext ?_)
  have ho := off1_eq c
  have hp := pick_val c h
  match a with
  | ⟨0, _⟩ => show k0_off1 c 0 + 1 * b.val = b.val; rw [ho]; show 0 + 1 * b.val = b.val; omega
  | ⟨1, _⟩ => show k0_off1 c 1 + 1 * j.val = j.val; rw [ho]; show 0 + 1 * j.val = j.val; omega
  | ⟨2, _⟩ => show k0_off1 c 2 + 1 * (pick (bit c) h).val = 4 * c.val + h.val; rw [ho]; show 8 * (c.val / 2) + 1 * (pick (bit c) h).val = _; omega
  | ⟨3, _⟩ => show k0_off1 c 3 + 1 * e.val = e.val; rw [ho]; show 0 + 1 * e.val = e.val; omega

/-- The two batches of a buffer of fetched keys, as the kernel loads them. -/
theorem k_load (f : Vec Ideal S2x128x8x64 .f32) (b : Fin 2) (j : Fin 128) (p : Fin 8) (e : Fin 64) :
    (![kM.view.readAt (Elt Ideal) kvR0.toLoadRect f, kM.view.readAt (Elt Ideal) kvR1.toLoadRect f] : Fin 2 → Vec Ideal S1x128x8x64 .f32) b
      (ix4 (0 : Fin 1) j p e) = f (ix4 b j p e) := by
  match b with
  | ⟨0, _⟩ => exact congrArg f (funext fun a => Fin.ext (by
      match a with
      | ⟨0, _⟩ => rfl
      | ⟨1, _⟩ => show 0 + 1 * j.val = j.val; omega
      | ⟨2, _⟩ => show 0 + 1 * p.val = p.val; omega
      | ⟨3, _⟩ => show 0 + 1 * e.val = e.val; omega))
  | ⟨1, _⟩ => exact congrArg f (funext fun a => Fin.ext (by
      match a with
      | ⟨0, _⟩ => rfl
      | ⟨1, _⟩ => show 0 + 1 * j.val = j.val; omega
      | ⟨2, _⟩ => show 0 + 1 * p.val = p.val; omega
      | ⟨3, _⟩ => show 0 + 1 * e.val = e.val; omega))

/-- And of fetched values. -/
theorem v_load (f : Vec Ideal S2x128x8x64 .f32) (b : Fin 2) (j : Fin 128) (p : Fin 8) (e : Fin 64) :
    (![vM.view.readAt (Elt Ideal) kvR0.toLoadRect f, vM.view.readAt (Elt Ideal) kvR1.toLoadRect f] : Fin 2 → Vec Ideal S1x128x8x64 .f32) b
      (ix4 (0 : Fin 1) j p e) = f (ix4 b j p e) := k_load f b j p e

/-! ## The result -/

/-- Attention of batch `b`, query row `i`, at column `d` of head `h` of device `c`, from the argument buffers the device
    holds. -/
def ctxM (c : Fin 32) (b : Fin 2) (i : Fin 128) (h : Fin 4) (d : Fin 64) : EReal :=
  attn (fun j => score
      (fun e => ∑ f : Fin 512, aX m c (ix3 b i f) * aQ m c (ix2 f (col h e)))
      (fun e => aK m c (ix4 b j (head c h) e)))
    (fun j => aV m c (ix4 b j (head c h) d))

/-- A device's 256 columns, head by head. -/
theorem sum_col (f : Fin 256 → EReal) : ∑ c : Fin 256, f c = ∑ h : Fin 4, ∑ d : Fin 64, f (col h d) := by
  rw [← Equiv.sum_comp (finProdFinEquiv (m := 4) (n := 64)), Fintype.sum_prod_type]
  refine Finset.sum_congr rfl fun h _ => Finset.sum_congr rfl fun d _ => congrArg f (Fin.ext ?_)
  show d.val + 64 * h.val = 64 * h.val + d.val
  omega

/-- A device's partial results at a place of the 32 blocks. -/
theorem PVm_apply (c : Dev nD) (s : S32x16x256.Idx) (b : Fin 2) (i : Fin 128) (n : Fin 512)
    (hs : (128 * b.val + i.val) * 512 + n.val = ((s 0).val * 16 + (s 1).val) * 256 + (s 2).val) :
    PVm m c s = ∑ h : Fin 4, ∑ d : Fin 64, ctxM m c b i h d * aO m c (ix2 (col h d) n) := by
  refine (partOf_apply (bit c) (xS m c) (wqS m c) _ _ _ _ (woS m c) s b i n hs).trans ((sum_col _).trans ?_)
  refine Finset.sum_congr rfl fun h _ => Finset.sum_congr rfl fun d _ => ?_
  rw [woS_eq, ctxAll_apply]
  refine congrArg (· * _) ?_
  refine congrArg₂ attn (funext fun j => congrArg₂ score (funext fun e => ?_) (funext fun e => (k_load _ b j _ e).trans (kV_apply m c b j h e)))
    (funext fun j => (v_load _ b j _ d).trans (vV_apply m c b j h d))
  rw [qOf_apply, xS_eq, wqS_eq]

/-- The sum a device puts into its slot of the gathering buffer. -/
theorem sum_apply (x : Vec Ideal S32x16x256 .bf16) (i : S32x16x256.Idx) :
    k0_pay19 x (blk i) = ∑ q : Fin 32, x (put q i) := by
  refine (shapeCast_apply _ shapeCasts_S16x256_S1x16x256 (blk i) (ix2 (i 1) (i 2)) ?_).trans
    ((Ideal.multiReduction_add_single (extf .f32 x bitsLt_bf16_f32) _ reduces_S32x16x256_S16x256 (.inl rfl) rfl _).trans
      (Finset.sum_congr rfl fun q _ => congrArg x (funext fun a => Fin.ext ?_)))
  · rw [Shape.rowMajor_val_three, Shape.rowMajor_val_two]
    show (i 1).val * 256 + (i 2).val = (0 * 16 + (i 1).val) * 256 + (i 2).val
    omega
  · match a with
    | ⟨0, _⟩ => rfl
    | ⟨1, _⟩ => rfl
    | ⟨2, _⟩ => rfl

/-- The kernel's result at an index: the sum over the devices and their columns. -/
theorem outV_apply (b : Fin 2) (i : Fin 128) (n : Fin 512) :
    outV m (ix3 b i n)
      = ∑ c : Fin 32, ∑ h : Fin 4, ∑ d : Fin 64, ctxM m c b i h d * aO m c (ix2 (col h d) n) := by
  have hlt : (128 * b.val + i.val) * 512 + n.val < 131072 := by omega
  let s : S32x16x256.Idx := ix3 (⟨((128 * b.val + i.val) * 512 + n.val) / 4096, by omega⟩ : Fin 32)
    (⟨((128 * b.val + i.val) * 512 + n.val) / 256 % 16, by omega⟩ : Fin 16) (⟨((128 * b.val + i.val) * 512 + n.val) % 256, by omega⟩ : Fin 256)
  have hs : (128 * b.val + i.val) * 512 + n.val = ((s 0).val * 16 + (s 1).val) * 256 + (s 2).val := by
    show (128 * b.val + i.val) * 512 + n.val = (((128 * b.val + i.val) * 512 + n.val) / 4096 * 16
      + ((128 * b.val + i.val) * 512 + n.val) / 256 % 16) * 256 + ((128 * b.val + i.val) * 512 + n.val) % 256
    omega
  refine (shapeCast_apply (extf .f32 (gathV (PVm m)) bitsLt_bf16_f32) shapeCasts_S32x16x256_S2x128x512 (ix3 b i n) s ?_).trans ?_
  · rw [Shape.rowMajor_val_three, Shape.rowMajor_val_three]
    refine hs.symm.trans ?_
    show (128 * b.val + i.val) * 512 + n.val = (b.val * 128 + i.val) * 512 + n.val
    omega
  · refine (sum_apply (accV (PVm m) (lead s)) s).trans (Finset.sum_congr rfl fun c _ => ?_)
    refine Eq.trans ?_ (PVm_apply m c s b i n hs)
    show PVm m (lead (put c s)) (put (lead s) (put c s)) = PVm m c s
    exact congrArg (PVm m c) (funext fun a => Fin.ext (by
      match a with
      | ⟨0, _⟩ => rfl
      | ⟨1, _⟩ => rfl
      | ⟨2, _⟩ => rfl))

end Cert.Val
-- ==== Proof.ValRef.lean ====
/-
The reference's result read at an index at the extended reals.
-/
module

public import proofs.«01_k».proof.Proof.ValHead
public import proofs.«01_k».proof.Proof.Gen.ReferenceIdeal.Read
public import Idealize.ShloMosaic.Lib.KernelVsHost

@[expose] public section

noncomputable section

namespace Cert.Val

open Idealize.ShloMosaic Idealize.ShloMosaic.ValueIdx
open Cert.ReferenceIdeal Cert.ReferenceIdeal.Gen Cert.ReferenceIdeal.Read

variable (x : FVec Ideal S2x128x512 .f32) (wq : FVec Ideal S512x8192 .f32) (k v : FVec Ideal S2x128x128x64 .f32)
  (wo : FVec Ideal S8192x512 .f32)

/-- Column `e` of head `h` among all 8192 columns. -/
def wide (h : Fin 128) (e : Fin 64) : Fin 8192 := ⟨64 * h.val + e.val, by omega⟩

/-- The reference's query at batch `b`, row `i`, head `h`, column `e`. -/
def qRef (b : Fin 2) (i h : Fin 128) (e : Fin 64) : EReal := ∑ f : Fin 512, x (ix3 b i f) * wq (ix2 f (wide h e))
/-- The reference's scores of a query row. -/
def sRef (b : Fin 2) (h i j : Fin 128) : EReal := score (qRef x wq b i h) (fun e => k (ix4 b j h e))

/-- Every key is within the window of every query. -/
theorem mask_true (i j : Fin 128) : val_main_v11 (F := Ideal) (ix2 i j) = 1#1 := by
  have key : ∀ i j : Fin 128, IntOp.cmpi .sle (IntOp.absi (IntOp.subi (BitVec.ofNat 32 i.val) (BitVec.ofNat 32 j.val))) 128#32 = 1#1 := by
    have up : ∀ d : Fin 128, IntOp.cmpi .sle (IntOp.absi (BitVec.ofNat 32 d.val)) 128#32 = 1#1 := by decide
    have down : ∀ d : Fin 128, IntOp.cmpi .sle (IntOp.absi (-BitVec.ofNat 32 d.val)) 128#32 = 1#1 := by decide
    intro i j
    by_cases hij : j.val ≤ i.val
    · have e : IntOp.subi (BitVec.ofNat 32 i.val) (BitVec.ofNat 32 j.val) = BitVec.ofNat 32 (i.val - j.val) := by
        apply BitVec.eq_of_toNat_eq
        simp [IntOp.subi]
        omega
      rw [e]; exact up ⟨i.val - j.val, by omega⟩
    · have e : IntOp.subi (BitVec.ofNat 32 i.val) (BitVec.ofNat 32 j.val) = -BitVec.ofNat 32 (j.val - i.val) := by
        apply BitVec.eq_of_toNat_eq
        simp [IntOp.subi]
        omega
      rw [e]; exact down ⟨j.val - i.val, by omega⟩
  rw [val_main_v11_apply, val_main_v9_apply, val_main_v8_apply, val_main_v6_apply, val_main_v7_apply, val_main_v3_apply, val_main_v5_apply,
    val_main_v2_apply, val_main_v4_apply, val_main_v10_apply, val_main_c_apply]
  exact key i j

/-- So every query row has a key it keeps. -/
theorem keep_true (i : Fin 128) : val_main_v22 (F := Ideal) (ix1 i) = 1#1 := by
  unfold val_main_v22
  rw [Host.reduce_eq_fold_single IntOp.ori _ _ reducesTo_S128x128_S128_d1 (by decide) h_S_]
  have hx : ∀ f : Fin 128 → BitVec 1, (∀ j, f j = 1#1) → ∀ z, (Finset.univ : Finset (Fin 128)).fold IntOp.ori z f = 1#1 := by
    intro f hf z
    have hor : ∀ y : BitVec 1, IntOp.ori 1#1 y = 1#1 := by decide
    rw [← Finset.insert_erase (Finset.mem_univ (0 : Fin 128)), Finset.fold_insert (Finset.notMem_erase _ _), hf, hor]
  refine hx _ (fun j => ?_) _
  exact (congrArg (val_main_v11 (F := Ideal)) (funext fun a => Fin.ext (by match a with | ⟨0, _⟩ => rfl | ⟨1, _⟩ => rfl))).trans (mask_true i j)

/-- The queries at an index. -/
theorem v1_apply (b : Fin 2) (i h : Fin 128) (e : Fin 64) : val_main_v1 (F := Ideal) x wq (ix4 b i h e) = qRef x wq b i h e := by
  rw [val_main_v1_apply, val_main_v0_apply]
  refine Finset.sum_congr rfl fun f _ => ?_
  congr 1
  · refine congrArg x (funext fun a => Fin.ext ?_)
    match a with
    | ⟨0, _⟩ => show (((b.val * 128 + i.val) * 128 + h.val) * 64 + e.val) / 1048576 = b.val; omega
    | ⟨1, _⟩ => show (((b.val * 128 + i.val) * 128 + h.val) * 64 + e.val) / 8192 % 128 = i.val; omega
    | ⟨2, _⟩ => rfl
  · refine congrArg wq (funext fun a => Fin.ext ?_)
    match a with
    | ⟨0, _⟩ => rfl
    | ⟨1, _⟩ => show (((b.val * 128 + i.val) * 128 + h.val) * 64 + e.val) % 8192 = 64 * h.val + e.val; omega

/-- The masked scores at an index: the scores. -/
theorem v16_apply (b : Fin 2) (h i j : Fin 128) : val_main_v16 (F := Ideal) x wq k (ix4 b h i j) = sRef x wq k b h i j := by
  have hm : val_main_call0_v1 (F := Ideal) (ix4 b h i j) = 1#1 := by
    rw [val_main_call0_v1_apply, val_main_v15_apply]
    exact (congrArg _ (eq_ix2 _)).trans (mask_true i j)
  rw [val_main_v16_apply, hm, select_one, val_main_v14_apply, val_main_v12_apply]
  refine congrArg (· * Ideal.ofBits .f32 0x3E000000#32) (Finset.sum_congr rfl fun e _ => ?_)
  congr 1
  · exact (congrArg _ (eq_ix4 _)).trans (v1_apply x wq b i h e)
  · exact congrArg k (eq_ix4 _)

/-- The host's maximum along the last axis, at an index. -/
theorem hostMax_apply (y : FVec Ideal S2x128x128x128 .f32) (hr : Shape.Reduces S2x128x128x128 [3] S2x128x128) (j : S2x128x128.Idx) :
    Host.reduce FloatOps.maximumf y (constant S_ .f32 0xFF800000#32) reducesTo_S2x128x128x128_S2x128x128_d3 h_S_ j = rowMax (y ∘ hr.lift j) := by
  have e := hostReduce_maximumf_eq_multiReduction y 0xFF800000#32 reducesTo_S2x128x128x128_S2x128x128_d3 h_S_ hr (.inl rfl) rfl
  exact (congrFun e j).trans (Ideal.multiReduction_maximumf_single y _ hr (.inl rfl) rfl j)

/-- Each row's largest score. -/
theorem v17_apply (b : Fin 2) (h i : Fin 128) : val_main_v17 (F := Ideal) x wq k (ix3 b h i) = rowMax (sRef x wq k b h i) := by
  have hr : Shape.Reduces S2x128x128x128 [3] S2x128x128 := by decide
  have hf : (val_main_v16 (F := Ideal) x wq k ∘ hr.lift (ix3 b h i)) = sRef x wq k b h i := funext fun j =>
    (congrArg (val_main_v16 (F := Ideal) x wq k) (funext fun a => Fin.ext (by
      match a with | ⟨0, _⟩ => rfl | ⟨1, _⟩ => rfl | ⟨2, _⟩ => rfl | ⟨3, _⟩ => rfl))).trans (v16_apply x wq k b h i j)
  unfold val_main_v17 val_main_cst_1
  rw [← hf]
  generalize val_main_v16 (F := Ideal) x wq k = y
  exact hostMax_apply y hr _

/-- The exponentials at an index. -/
theorem v21_apply (b : Fin 2) (h i j : Fin 128) :
    val_main_v21 (F := Ideal) x wq k (ix4 b h i j) = Ideal.exp (sRef x wq k b h i j - rowMax (sRef x wq k b h i)) := by
  rw [val_main_v21_apply, val_main_v20_apply, v16_apply, val_main_v19_apply, val_main_v18_apply]
  have := (congrArg (val_main_v17 (F := Ideal) x wq k) (eq_ix3 (idx_main_v18 (idx_main_v19 (ix4 b h i j))))).trans (v17_apply x wq k b h i)
  rw [this]
  rfl

/-- The weights at an index. -/
theorem v30_apply (b : Fin 2) (h i j : Fin 128) :
    val_main_v30 (F := Ideal) x wq k (ix4 b h i j) = wt (sRef x wq k b h i) j := by
  have hm : val_main_call2_v1 (F := Ideal) (ix4 b h i j) = 1#1 := by
    rw [val_main_call2_v1_apply, val_main_v29_apply]
    exact (congrArg _ (eq_ix1 _)).trans (keep_true i)
  have hm1 : val_main_call1_v1 (F := Ideal) (idx_main_v27 (ix4 b h i j)) = 1#1 := by
    rw [val_main_call1_v1_apply, val_main_v23_apply]
    exact (congrArg _ (eq_ix1 _)).trans (keep_true i)
  rw [val_main_v30_apply, hm, select_one, val_main_v28_apply, v21_apply, val_main_v27_apply, val_main_v26_apply, hm1, select_one,
    val_main_v25_apply, val_main_v24_apply]
  refine congrArg (Ideal.div _) ?_
  refine (congrArg (· + _) Ideal.ofBits_zero_f32).trans ((zero_add _).trans (Finset.sum_congr rfl fun j' _ => ?_))
  exact (congrArg _ (eq_ix4 _)).trans (v21_apply x wq k b h i j')

/-- The reference's attention at an index. -/
theorem v33_apply (b : Fin 2) (i h : Fin 128) (d : Fin 64) :
    val_main_v33 (F := Ideal) x wq k v (ix3 b i (wide h d)) = attn (sRef x wq k b h i) (fun j => v (ix4 b j h d)) := by
  have hi : idx_main_v33 (ix3 b i (wide h d)) = ix4 b i h d := funext fun a => Fin.ext (by
    match a with
    | ⟨0, _⟩ => show ((b.val * 128 + i.val) * 8192 + (64 * h.val + d.val)) / 1048576 = b.val; omega
    | ⟨1, _⟩ => show ((b.val * 128 + i.val) * 8192 + (64 * h.val + d.val)) / 8192 % 128 = i.val; omega
    | ⟨2, _⟩ => show ((b.val * 128 + i.val) * 8192 + (64 * h.val + d.val)) / 64 % 128 = h.val; omega
    | ⟨3, _⟩ => show ((b.val * 128 + i.val) * 8192 + (64 * h.val + d.val)) % 64 = d.val; omega)
  rw [val_main_v33_apply, hi, val_main_v32_apply, val_main_v31_apply]
  refine Finset.sum_congr rfl fun j _ => (mul_comm _ _).trans (congrArg₂ (· * ·) ?_ (congrArg v (eq_ix4 _)))
  exact (congrArg _ (eq_ix4 _)).trans (v30_apply x wq k b h i j)

/-- The reference's result at an index. -/
theorem v34_apply (b : Fin 2) (i : Fin 128) (n : Fin 512) :
    val_main_v34 (F := Ideal) x wq k v wo (ix3 b i n)
      = ∑ c : Fin 8192, val_main_v33 (F := Ideal) x wq k v (ix3 b i c) * wo (ix2 c n) := by
  rw [val_main_v34_apply]
  exact Finset.sum_congr rfl fun c _ => congrArg₂ (· * ·) (congrArg (val_main_v33 (F := Ideal) x wq k v) (eq_ix3 _)) (congrArg wo (eq_ix2 _))

end Cert.Val
-- ==== Proof.Value.lean ====
/-
The kernel's result is the reference's, at the extended reals.
-/
module

public import proofs.«01_k».proof.Proof.ValKernel
public import proofs.«01_k».proof.Proof.ValRef
public import Idealize.ShloMosaic.Lib.Layout

@[expose] public section

noncomputable section

namespace Cert.Val

open Idealize.ShloMosaic Idealize.ShloMosaic.ValueIdx Idealize.ShloMosaic.TcCoe
open Cert.KernelIdeal Cert.KernelIdeal.Sync

/-- All 8192 columns, device by device and head by head. -/
theorem sum_wide (f : Fin 8192 → EReal) :
    ∑ k : Fin 8192, f k = ∑ c : Fin 32, ∑ h : Fin 4, ∑ d : Fin 64, f (wide (head c h) d) := by
  rw [← Equiv.sum_comp (finProdFinEquiv (m := 128) (n := 64)), Fintype.sum_prod_type,
    ← Equiv.sum_comp (finProdFinEquiv (m := 32) (n := 4)), Fintype.sum_prod_type]
  refine Finset.sum_congr rfl fun c _ => Finset.sum_congr rfl fun h _ => Finset.sum_congr rfl fun d _ => congrArg f (Fin.ext ?_)
  show d.val + 64 * (h.val + 4 * c.val) = 64 * (4 * c.val + h.val) + d.val
  omega

variable (x : FVec Ideal S2x128x512 .f32) (wq : FVec Ideal Cert.ReferenceIdeal.S512x8192 .f32)
  (k v : FVec Ideal S2x128x128x64 .f32) (wo : FVec Ideal Cert.ReferenceIdeal.S8192x512 .f32)

/-- A device's columns of the query weights are its heads' columns of the whole. -/
theorem wq_block (c : Fin 32) (f : Fin 512) (h : Fin 4) (e : Fin 64) :
    Layout.block ⟨2, ![512, 256]⟩ ⟨2, ![512, 8192]⟩ 1 32 c wq (by decide) (ix2 f (col h e)) = wq (ix2 f (wide (head c h) e)) := by
  refine congrArg wq (funext fun a => Fin.ext ?_)
  match a with
  | ⟨0, _⟩ => rfl
  | ⟨1, _⟩ => show c.val * 256 + (64 * h.val + e.val) = 64 * (4 * c.val + h.val) + e.val; omega

/-- A device's rows of the output weights are its heads' rows of the whole. -/
theorem wo_block (c : Fin 32) (h : Fin 4) (d : Fin 64) (n : Fin 512) :
    Layout.block ⟨2, ![256, 512]⟩ ⟨2, ![8192, 512]⟩ 0 32 c wo (by decide) (ix2 (col h d) n) = wo (ix2 (wide (head c h) d) n) := by
  refine congrArg wo (funext fun a => Fin.ext ?_)
  match a with
  | ⟨0, _⟩ => show c.val * 256 + (64 * h.val + d.val) = 64 * (4 * c.val + h.val) + d.val; omega
  | ⟨1, _⟩ => rfl

/-- When every device holds its part of the reference's arrays, the kernel's result is the reference's of those arrays. -/
theorem out_eq (m : (ℓ : Loc nD τ sig) → Buf (Elt Ideal) ℓ)
    (hx : ∀ c, aX m c = x)
    (hq : ∀ c, aQ m c = Layout.block ⟨2, ![512, 256]⟩ ⟨2, ![512, 8192]⟩ 1 32 c wq (by decide))
    (hk : ∀ c, aK m c = k) (hv : ∀ c, aV m c = v)
    (ho : ∀ c, aO m c = Layout.block ⟨2, ![256, 512]⟩ ⟨2, ![8192, 512]⟩ 0 32 c wo (by decide)) :
    outV m = Cert.ReferenceIdeal.Read.val_main_v34 (F := Ideal) x wq k v wo := by
  have key : ∀ (b : Fin 2) (i : Fin 128) (n : Fin 512),
      outV m (ix3 b i n) = Cert.ReferenceIdeal.Read.val_main_v34 (F := Ideal) x wq k v wo (ix3 b i n) := by
    intro b i n
    refine (outV_apply m b i n).trans (Eq.trans ?_ ((v34_apply x wq k v wo b i n).trans (sum_wide _)).symm)
    refine Finset.sum_congr rfl fun c _ => Finset.sum_congr rfl fun h _ => Finset.sum_congr rfl fun d _ => ?_
    refine congrArg₂ (· * ·) (Eq.trans ?_ (v33_apply x wq k v b i (head c h) d).symm) ((congrFun (ho c) _).trans (wo_block wo c h d n))
    refine congrArg₂ attn (funext fun j => congrArg₂ score (funext fun e => Finset.sum_congr rfl fun f _ => ?_)
      (funext fun e => congrFun (hk c) _)) (funext fun j => congrFun (hv c) _)
    exact congrArg₂ (· * ·) (congrFun (hx c) _) ((congrFun (hq c) _).trans (wq_block wq c f h e))
  funext i
  exact (congrArg (outV m) (eq_ix3 i)).trans ((key _ _ _).trans (congrArg _ (eq_ix3 i).symm))

end Cert.Val

end
-- ==== Proof.lean ====
module

public import proofs.«01_k».proof.Defs
public import proofs.«01_k».proof.Proof.KernelRun
public import proofs.«01_k».proof.Proof.IdealRun
public import proofs.«01_k».proof.Proof.Value
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import Idealize.ShloMosaic.Lib.Quiescent

@[expose] public section

noncomputable section

namespace Cert.Proof

open Idealize.ShloMosaic Idealize.SL.Sem

/-- The kernel as written: its run, with the result left out. -/
theorem frame_kernel : Cert.quiescent_Kernel := fun m ρ _ =>
  (θ_run _ _ _).mono (fun _ h => ⟨fun c => (h.1 c).2, h.2⟩) (Cert.Kernel.Sync.run_spec (F := Bits) m ρ)

/-- The kernel at exact arithmetic. -/
theorem frame_ideal : Cert.quiescent_KernelIdeal := fun m ρ _ =>
  (θ_run _ _ _).mono (fun _ h => ⟨fun c => (h.1 c).2, h.2⟩) (Cert.KernelIdeal.Sync.run_spec (F := Ideal) m ρ)

/-- The reference, which has no semaphore. -/
theorem frame_reference : Cert.quiescent_ReferenceIdeal := fun m ρ _ =>
  (θ_run _ _ _).mono (fun r h => ⟨fun c => (h c).2, sem_eq_zero_of_no_sems rfl r.2⟩) (Cert.ReferenceIdeal.Value.run (F := Ideal) m ρ)

/-- The kernel's result on every device is the reference's, at exact arithmetic. -/
theorem algebraic : Cert.algebraic_KernelIdeal_ReferenceIdeal := fun m ρ m' ρ' _ hagree => by
  have hv := (Cert.Val.out_eq _ _ _ _ _ m (fun c => (hagree c).1) (fun c => (hagree c).2.1) (fun c => (hagree c).2.2.1)
    (fun c => (hagree c).2.2.2.1) (fun c => (hagree c).2.2.2.2)).trans (Cert.ReferenceIdeal.Read.val_main_v34_eq (F := Ideal) m' 0).symm
  exact ⟨Cert.ReferenceIdeal.Value.res_main_v34 (F := Ideal) m' 0,
    (θ_run _ _ _).mono (fun _ h c => ⟨((h.1 c).1).trans hv, (h.1 c).2⟩) (Cert.KernelIdeal.Sync.run_spec (F := Ideal) m ρ),
    (θ_run _ _ _).mono (fun _ h => h 0) (Cert.ReferenceIdeal.Value.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
